-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x8192 : Shape := ⟨3, ![256, 1, 8192]⟩
abbrev S14848x2048x3 : Shape := ⟨3, ![14848, 2048, 3]⟩
abbrev S14848 : Shape := ⟨1, ![14848]⟩
abbrev S256x2048x4 : Shape := ⟨3, ![256, 2048, 4]⟩
abbrev S4x256x2048 : Shape := ⟨3, ![4, 256, 2048]⟩
abbrev S3x14848x2048 : Shape := ⟨3, ![3, 14848, 2048]⟩
abbrev S1x14848 : Shape := ⟨2, ![1, 14848]⟩
abbrev S256x14848 : Shape := ⟨2, ![256, 14848]⟩
abbrev S3x512x2048 : Shape := ⟨3, ![3, 512, 2048]⟩
abbrev S1x512 : Shape := ⟨2, ![1, 512]⟩
abbrev S256x512 : Shape := ⟨2, ![256, 512]⟩
abbrev S1x512x2048 : Shape := ⟨3, ![1, 512, 2048]⟩
abbrev S512x2048 : Shape := ⟨2, ![512, 2048]⟩
abbrev S128x2048 : Shape := ⟨2, ![128, 2048]⟩
abbrev S1x256x2048 : Shape := ⟨3, ![1, 256, 2048]⟩
abbrev S256x2048 : Shape := ⟨2, ![256, 2048]⟩
abbrev S256x1x14848 : Shape := ⟨3, ![256, 1, 14848]⟩

abbrev nBuf : Space → Nat
  | .hbm => 9
  | .vmem => 7
  | .smem => 0
  | _ => 0

abbrev bufTy : (tb : Table) → Fin (tcTables nBuf tb) → BufTy
  | .hbm, ⟨0, _⟩ => ⟨S256x1x8192, .bf16⟩
  | .hbm, ⟨1, _⟩ => ⟨S14848x2048x3, .i8⟩
  | .hbm, ⟨2, _⟩ => ⟨S14848, .f32⟩
  | .hbm, ⟨3, _⟩ => ⟨S256x2048x4, .bf16⟩
  | .hbm, ⟨4, _⟩ => ⟨S4x256x2048, .bf16⟩
  | .hbm, ⟨5, _⟩ => ⟨S3x14848x2048, .i8⟩
  | .hbm, ⟨6, _⟩ => ⟨S1x14848, .f32⟩
  | .hbm, ⟨7, _⟩ => ⟨S256x14848, .bf16⟩
  | .hbm, ⟨8, _⟩ => ⟨S256x1x14848, .bf16⟩
  | .local _ .vmem, ⟨0, _⟩ => ⟨S4x256x2048, .bf16⟩
  | .local _ .vmem, ⟨1, _⟩ => ⟨S3x512x2048, .i8⟩
  | .local _ .vmem, ⟨2, _⟩ => ⟨S3x512x2048, .i8⟩
  | .local _ .vmem, ⟨3, _⟩ => ⟨S1x512, .f32⟩
  | .local _ .vmem, ⟨4, _⟩ => ⟨S1x512, .f32⟩
  | .local _ .vmem, ⟨5, _⟩ => ⟨S256x512, .bf16⟩
  | .local _ .vmem, ⟨6, _⟩ => ⟨S256x512, .bf16⟩
  | _, _ => ⟨S256x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![29], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x512x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S256x1x8192 : Shape := ⟨3, ![256, 1, 8192]⟩
abbrev S14848x2048x3 : Shape := ⟨3, ![14848, 2048, 3]⟩
abbrev S14848 : Shape := ⟨1, ![14848]⟩
abbrev S14848x2048x1 : Shape := ⟨3, ![14848, 2048, 1]⟩
abbrev S14848x2048 : Shape := ⟨2, ![14848, 2048]⟩
abbrev S_ : Shape := ⟨0, ![]⟩
abbrev S256x2048x4 : Shape := ⟨3, ![256, 2048, 4]⟩
abbrev S4x256x2048 : Shape := ⟨3, ![4, 256, 2048]⟩
abbrev S1x256x2048 : Shape := ⟨3, ![1, 256, 2048]⟩
abbrev S256x2048 : Shape := ⟨2, ![256, 2048]⟩
abbrev S256x14848 : Shape := ⟨2, ![256, 14848]⟩
abbrev S1x14848 : Shape := ⟨2, ![1, 14848]⟩
abbrev S256x1x14848 : Shape := ⟨3, ![256, 1, 14848]⟩

abbrev nBuf : Space → Nat
  | .hbm => 272
  | .vmem => 0
  | .smem => 0
  | _ => 0

abbrev hbmTy0_0 (i : Nat) : BufTy := match i % 128 with
  | 0 => ⟨S256x1x8192, .bf16⟩
  | 1 => ⟨S14848x2048x3, .i8⟩
  | 2 => ⟨S14848, .f32⟩
  | 3 => ⟨S14848x2048x1, .i8⟩
  | 4 => ⟨S14848x2048, .i8⟩
  | 5 => ⟨S14848x2048, .i32⟩
  | 6 => ⟨S14848x2048x1, .i8⟩
  | 7 => ⟨S14848x2048, .i8⟩
  | 8 => ⟨S14848x2048, .i32⟩
  | 9 => ⟨S14848x2048x1, .i8⟩
  | 10 => ⟨S14848x2048, .i8⟩
  | 11 => ⟨S14848x2048, .i32⟩
  | 12 => ⟨S_, .i32⟩
  | 13 => ⟨S14848x2048, .i32⟩
  | 14 => ⟨S14848x2048, .i32⟩
  | 15 => ⟨S_, .i32⟩
  | 16 => ⟨S14848x2048, .i32⟩
  | 17 => ⟨S14848x2048, .i32⟩
  | 18 => ⟨S_, .i32⟩
  | 19 => ⟨S14848x2048, .i32⟩
  | 20 => ⟨S14848x2048, .i32⟩
  | 21 => ⟨S_, .i32⟩
  | 22 => ⟨S14848x2048, .i32⟩
  | 23 => ⟨S14848x2048, .i32⟩
  | 24 => ⟨S14848x2048, .i32⟩
  | 25 => ⟨S_, .i32⟩
  | 26 => ⟨S14848x2048, .i32⟩
  | 27 => ⟨S14848x2048, .i32⟩
  | 28 => ⟨S_, .i32⟩
  | 29 => ⟨S14848x2048, .i32⟩
  | 30 => ⟨S14848x2048, .i32⟩
  | 31 => ⟨S_, .i32⟩
  | 32 => ⟨S14848x2048, .i32⟩
  | 33 => ⟨S14848x2048, .i32⟩
  | 34 => ⟨S14848x2048, .i32⟩
  | 35 => ⟨S_, .i32⟩
  | 36 => ⟨S14848x2048, .i32⟩
  | 37 => ⟨S14848x2048, .i32⟩
  | 38 => ⟨S256x2048x4, .bf16⟩
  | 39 => ⟨S4x256x2048, .bf16⟩
  | 40 => ⟨S_, .i32⟩
  | 41 => ⟨S14848x2048, .i32⟩
  | 42 => ⟨S14848x2048, .i32⟩
  | 43 => ⟨S_, .i32⟩
  | 44 => ⟨S14848x2048, .i32⟩
  | 45 => ⟨S14848x2048, .i32⟩
  | 46 => ⟨S_, .i32⟩
  | 47 => ⟨S14848x2048, .i32⟩
  | 48 => ⟨S14848x2048, .i32⟩
  | 49 => ⟨S_, .i32⟩
  | 50 => ⟨S14848x2048, .i32⟩
  | 51 => ⟨S14848x2048, .i32⟩
  | 52 => ⟨S_, .i32⟩
  | 53 => ⟨S14848x2048, .i32⟩
  | 54 => ⟨S14848x2048, .i32⟩
  | 55 => ⟨S_, .i32⟩
  | 56 => ⟨S14848x2048, .i32⟩
  | 57 => ⟨S14848x2048, .i32⟩
  | 58 => ⟨S_, .i32⟩
  | 59 => ⟨S14848x2048, .i32⟩
  | 60 => ⟨S14848x2048, .i32⟩
  | 61 => ⟨S14848x2048, .i32⟩
  | 62 => ⟨S_, .i32⟩
  | 63 => ⟨S14848x2048, .i32⟩
  | 64 => ⟨S14848x2048, .i1⟩
  | 65 => ⟨S_, .i32⟩
  | 66 => ⟨S14848x2048, .i32⟩
  | 67 => ⟨S14848x2048, .i1⟩
  | 68 => ⟨S_, .i32⟩
  | 69 => ⟨S14848x2048, .i32⟩
  | 70 => ⟨S14848x2048, .i1⟩
  | 71 => ⟨S_, .i32⟩
  | 72 => ⟨S_, .i32⟩
  | 73 => ⟨S14848x2048, .i32⟩
  | 74 => ⟨S14848x2048, .i32⟩
  | 75 => ⟨S14848x2048, .i32⟩
  | 76 => ⟨S_, .i32⟩
  | 77 => ⟨S14848x2048, .i32⟩
  | 78 => ⟨S14848x2048, .i32⟩
  | 79 => ⟨S_, .i32⟩
  | 80 => ⟨S14848x2048, .i32⟩
  | 81 => ⟨S14848x2048, .i32⟩
  | 82 => ⟨S_, .i32⟩
  | 83 => ⟨S14848x2048, .i32⟩
  | 84 => ⟨S14848x2048, .i1⟩
  | 85 => ⟨S14848x2048, .i32⟩
  | 86 => ⟨S14848x2048, .i32⟩
  | 87 => ⟨S_, .i32⟩
  | 88 => ⟨S14848x2048, .i32⟩
  | 89 => ⟨S14848x2048, .i32⟩
  | 90 => ⟨S14848x2048, .i32⟩
  | 91 => ⟨S14848x2048, .i16⟩
  | 92 => ⟨S14848x2048, .bf16⟩
  | 93 => ⟨S1x256x2048, .bf16⟩
  | 94 => ⟨S256x2048, .bf16⟩
  | 95 => ⟨S256x14848, .f32⟩
  | 96 => ⟨S_, .i32⟩
  | 97 => ⟨S14848x2048, .i32⟩
  | 98 => ⟨S14848x2048, .i32⟩
  | 99 => ⟨S_, .i32⟩
  | 100 => ⟨S14848x2048, .i32⟩
  | 101 => ⟨S14848x2048, .i32⟩
  | 102 => ⟨S_, .i32⟩
  | 103 => ⟨S14848x2048, .i32⟩
  | 104 => ⟨S14848x2048, .i32⟩
  | 105 => ⟨S_, .i32⟩
  | 106 => ⟨S14848x2048, .i32⟩
  | 107 => ⟨S14848x2048, .i32⟩
  | 108 => ⟨S_, .i32⟩
  | 109 => ⟨S14848x2048, .i32⟩
  | 110 => ⟨S14848x2048, .i32⟩
  | 111 => ⟨S_, .i32⟩
  | 112 => ⟨S14848x2048, .i32⟩
  | 113 => ⟨S14848x2048, .i32⟩
  | 114 => ⟨S_, .i32⟩
  | 115 => ⟨S14848x2048, .i32⟩
  | 116 => ⟨S14848x2048, .i32⟩
  | 117 => ⟨S14848x2048, .i32⟩
  | 118 => ⟨S_, .i32⟩
  | 119 => ⟨S14848x2048, .i32⟩
  | 120 => ⟨S14848x2048, .i1⟩
  | 121 => ⟨S_, .i32⟩
  | 122 => ⟨S14848x2048, .i32⟩
  | 123 => ⟨S14848x2048, .i1⟩
  | 124 => ⟨S_, .i32⟩
  | 125 => ⟨S14848x2048, .i32⟩
  | 126 => ⟨S14848x2048, .i1⟩
  | 127 => ⟨S_, .i32⟩
  | _ => ⟨S256x1x8192, .bf16⟩

abbrev hbmTy0_1 (i : Nat) : BufTy := match i % 128 with
  | 0 => ⟨S_, .i32⟩
  | 1 => ⟨S14848x2048, .i32⟩
  | 2 => ⟨S14848x2048, .i32⟩
  | 3 => ⟨S14848x2048, .i32⟩
  | 4 => ⟨S_, .i32⟩
  | 5 => ⟨S14848x2048, .i32⟩
  | 6 => ⟨S14848x2048, .i32⟩
  | 7 => ⟨S_, .i32⟩
  | 8 => ⟨S14848x2048, .i32⟩
  | 9 => ⟨S14848x2048, .i32⟩
  | 10 => ⟨S_, .i32⟩
  | 11 => ⟨S14848x2048, .i32⟩
  | 12 => ⟨S14848x2048, .i1⟩
  | 13 => ⟨S14848x2048, .i32⟩
  | 14 => ⟨S14848x2048, .i32⟩
  | 15 => ⟨S_, .i32⟩
  | 16 => ⟨S14848x2048, .i32⟩
  | 17 => ⟨S14848x2048, .i32⟩
  | 18 => ⟨S14848x2048, .i32⟩
  | 19 => ⟨S14848x2048, .i16⟩
  | 20 => ⟨S14848x2048, .bf16⟩
  | 21 => ⟨S1x256x2048, .bf16⟩
  | 22 => ⟨S256x2048, .bf16⟩
  | 23 => ⟨S256x14848, .f32⟩
  | 24 => ⟨S256x14848, .f32⟩
  | 25 => ⟨S_, .i32⟩
  | 26 => ⟨S14848x2048, .i32⟩
  | 27 => ⟨S14848x2048, .i32⟩
  | 28 => ⟨S_, .i32⟩
  | 29 => ⟨S14848x2048, .i32⟩
  | 30 => ⟨S14848x2048, .i32⟩
  | 31 => ⟨S_, .i32⟩
  | 32 => ⟨S14848x2048, .i32⟩
  | 33 => ⟨S14848x2048, .i32⟩
  | 34 => ⟨S_, .i32⟩
  | 35 => ⟨S14848x2048, .i32⟩
  | 36 => ⟨S14848x2048, .i32⟩
  | 37 => ⟨S_, .i32⟩
  | 38 => ⟨S14848x2048, .i32⟩
  | 39 => ⟨S14848x2048, .i32⟩
  | 40 => ⟨S_, .i32⟩
  | 41 => ⟨S14848x2048, .i32⟩
  | 42 => ⟨S14848x2048, .i32⟩
  | 43 => ⟨S_, .i32⟩
  | 44 => ⟨S14848x2048, .i32⟩
  | 45 => ⟨S14848x2048, .i32⟩
  | 46 => ⟨S14848x2048, .i32⟩
  | 47 => ⟨S_, .i32⟩
  | 48 => ⟨S14848x2048, .i32⟩
  | 49 => ⟨S14848x2048, .i1⟩
  | 50 => ⟨S_, .i32⟩
  | 51 => ⟨S14848x2048, .i32⟩
  | 52 => ⟨S14848x2048, .i1⟩
  | 53 => ⟨S_, .i32⟩
  | 54 => ⟨S14848x2048, .i32⟩
  | 55 => ⟨S14848x2048, .i1⟩
  | 56 => ⟨S_, .i32⟩
  | 57 => ⟨S_, .i32⟩
  | 58 => ⟨S14848x2048, .i32⟩
  | 59 => ⟨S14848x2048, .i32⟩
  | 60 => ⟨S14848x2048, .i32⟩
  | 61 => ⟨S_, .i32⟩
  | 62 => ⟨S14848x2048, .i32⟩
  | 63 => ⟨S14848x2048, .i32⟩
  | 64 => ⟨S_, .i32⟩
  | 65 => ⟨S14848x2048, .i32⟩
  | 66 => ⟨S14848x2048, .i32⟩
  | 67 => ⟨S_, .i32⟩
  | 68 => ⟨S14848x2048, .i32⟩
  | 69 => ⟨S14848x2048, .i1⟩
  | 70 => ⟨S14848x2048, .i32⟩
  | 71 => ⟨S14848x2048, .i32⟩
  | 72 => ⟨S_, .i32⟩
  | 73 => ⟨S14848x2048, .i32⟩
  | 74 => ⟨S14848x2048, .i32⟩
  | 75 => ⟨S14848x2048, .i32⟩
  | 76 => ⟨S14848x2048, .i16⟩
  | 77 => ⟨S14848x2048, .bf16⟩
  | 78 => ⟨S1x256x2048, .bf16⟩
  | 79 => ⟨S256x2048, .bf16⟩
  | 80 => ⟨S256x14848, .f32⟩
  | 81 => ⟨S256x14848, .f32⟩
  | 82 => ⟨S_, .i32⟩
  | 83 => ⟨S14848x2048, .i32⟩
  | 84 => ⟨S14848x2048, .i32⟩
  | 85 => ⟨S_, .i32⟩
  | 86 => ⟨S14848x2048, .i32⟩
  | 87 => ⟨S14848x2048, .i32⟩
  | 88 => ⟨S_, .i32⟩
  | 89 => ⟨S14848x2048, .i32⟩
  | 90 => ⟨S14848x2048, .i32⟩
  | 91 => ⟨S_, .i32⟩
  | 92 => ⟨S14848x2048, .i32⟩
  | 93 => ⟨S14848x2048, .i32⟩
  | 94 => ⟨S_, .i32⟩
  | 95 => ⟨S14848x2048, .i32⟩
  | 96 => ⟨S14848x2048, .i32⟩
  | 97 => ⟨S_, .i32⟩
  | 98 => ⟨S14848x2048, .i32⟩
  | 99 => ⟨S14848x2048, .i32⟩
  | 100 => ⟨S_, .i32⟩
  | 101 => ⟨S14848x2048, .i32⟩
  | 102 => ⟨S14848x2048, .i32⟩
  | 103 => ⟨S14848x2048, .i32⟩
  | 104 => ⟨S_, .i32⟩
  | 105 => ⟨S14848x2048, .i32⟩
  | 106 => ⟨S14848x2048, .i1⟩
  | 107 => ⟨S_, .i32⟩
  | 108 => ⟨S14848x2048, .i32⟩
  | 109 => ⟨S14848x2048, .i1⟩
  | 110 => ⟨S_, .i32⟩
  | 111 => ⟨S14848x2048, .i32⟩
  | 112 => ⟨S14848x2048, .i1⟩
  | 113 => ⟨S_, .i32⟩
  | 114 => ⟨S_, .i32⟩
  | 115 => ⟨S14848x2048, .i32⟩
  | 116 => ⟨S14848x2048, .i32⟩
  | 117 => ⟨S14848x2048, .i32⟩
  | 118 => ⟨S_, .i32⟩
  | 119 => ⟨S14848x2048, .i32⟩
  | 120 => ⟨S14848x2048, .i32⟩
  | 121 => ⟨S_, .i32⟩
  | 122 => ⟨S14848x2048, .i32⟩
  | 123 => ⟨S14848x2048, .i32⟩
  | 124 => ⟨S_, .i32⟩
  | 125 => ⟨S14848x2048, .i32⟩
  | 126 => ⟨S14848x2048, .i1⟩
  | 127 => ⟨S14848x2048, .i32⟩
  | _ => ⟨S256x1x8192, .bf16⟩

abbrev hbmTy0_2 (i : Nat) : BufTy := match i % 128 with
  | 0 => ⟨S14848x2048, .i32⟩
  | 1 => ⟨S_, .i32⟩
  | 2 => ⟨S14848x2048, .i32⟩
  | 3 => ⟨S14848x2048, .i32⟩
  | 4 => ⟨S14848x2048, .i32⟩
  | 5 => ⟨S14848x2048, .i16⟩
  | 6 => ⟨S14848x2048, .bf16⟩
  | 7 => ⟨S1x256x2048, .bf16⟩
  | 8 => ⟨S256x2048, .bf16⟩
  | 9 => ⟨S256x14848, .f32⟩
  | 10 => ⟨S256x14848, .f32⟩
  | 11 => ⟨S1x14848, .f32⟩
  | 12 => ⟨S256x14848, .f32⟩
  | 13 => ⟨S256x14848, .f32⟩
  | 14 => ⟨S256x14848, .bf16⟩
  | 15 => ⟨S256x1x14848, .bf16⟩
  | _ => ⟨S256x1x8192, .bf16⟩

abbrev hbmTy (i : Nat) : BufTy := match i / 128 with
  | 0 => hbmTy0_0 i
  | 1 => hbmTy0_1 i
  | 2 => hbmTy0_2 i
  | _ => ⟨S256x1x8192, .bf16⟩

abbrev bufTy : (tb : Table) → Fin (tcTables nBuf tb) → BufTy
  | .hbm, ⟨i, _⟩ => hbmTy i
  | _, _ => ⟨S256x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_7 : Ref sig .tc := ⟨.hbm, 40, rfl⟩
abbrev main_v29 : Ref sig .tc := ⟨.hbm, 41, rfl⟩
abbrev main_v30 : Ref sig .tc := ⟨.hbm, 42, rfl⟩
abbrev main_c_8 : Ref sig .tc := ⟨.hbm, 43, rfl⟩
abbrev main_v31 : Ref sig .tc := ⟨.hbm, 44, rfl⟩
abbrev main_v32 : Ref sig .tc := ⟨.hbm, 45, rfl⟩
abbrev main_c_9 : Ref sig .tc := ⟨.hbm, 46, rfl⟩
abbrev main_v33 : Ref sig .tc := ⟨.hbm, 47, rfl⟩
abbrev main_v34 : Ref sig .tc := ⟨.hbm, 48, rfl⟩
abbrev main_c_10 : Ref sig .tc := ⟨.hbm, 49, rfl⟩
abbrev main_v35 : Ref sig .tc := ⟨.hbm, 50, rfl⟩
abbrev main_v36 : Ref sig .tc := ⟨.hbm, 51, rfl⟩
abbrev main_c_11 : Ref sig .tc := ⟨.hbm, 52, rfl⟩
abbrev main_v37 : Ref sig .tc := ⟨.hbm, 53, rfl⟩
abbrev main_v38 : Ref sig .tc := ⟨.hbm, 54, rfl⟩
abbrev main_c_12 : Ref sig .tc := ⟨.hbm, 55, rfl⟩
abbrev main_v39 : Ref sig .tc := ⟨.hbm, 56, rfl⟩
abbrev main_v40 : Ref sig .tc := ⟨.hbm, 57, rfl⟩
abbrev main_c_13 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_14 : Ref sig .tc := ⟨.hbm, 62, rfl⟩
abbrev main_v44 : Ref sig .tc := ⟨.hbm, 63, rfl⟩
abbrev main_v45 : Ref sig .tc := ⟨.hbm, 64, rfl⟩
abbrev main_c_15 : Ref sig .tc := ⟨.hbm, 65, rfl⟩
abbrev main_v46 : Ref sig .tc := ⟨.hbm, 66, rfl⟩
abbrev main_v47 : Ref sig .tc := ⟨.hbm, 67, rfl⟩
abbrev main_c_16 : Ref sig .tc := ⟨.hbm, 68, rfl⟩
abbrev main_v48 : Ref sig .tc := ⟨.hbm, 69, rfl⟩
abbrev main_v49 : Ref sig .tc := ⟨.hbm, 70, rfl⟩
abbrev main_c_17 : Ref sig .tc := ⟨.hbm, 71, rfl⟩
abbrev main_c_18 : Ref sig .tc := ⟨.hbm, 72, rfl⟩
abbrev main_call0_v0 : Ref sig .tc := ⟨.hbm, 73, rfl⟩
abbrev main_call0_v1 : Ref sig .tc := ⟨.hbm, 74, rfl⟩
abbrev main_v50 : Ref sig .tc := ⟨.hbm, 75, rfl⟩
abbrev main_c_19 : Ref sig .tc := ⟨.hbm, 76, rfl⟩
abbrev main_call1_v0 : Ref sig .tc := ⟨.hbm, 77, rfl⟩
abbrev main_v51 : Ref sig .tc := ⟨.hbm, 78, rfl⟩
abbrev main_c_20 : Ref sig .tc := ⟨.hbm, 79, rfl⟩
abbrev main_call2_v0 : Ref sig .tc := ⟨.hbm, 80, rfl⟩
abbrev main_v52 : Ref sig .tc := ⟨.hbm, 81, rfl⟩
abbrev main_c_21 : Ref sig .tc := ⟨.hbm, 82, rfl⟩
abbrev main_v53 : Ref sig .tc := ⟨.hbm, 83, rfl⟩
abbrev main_v54 : Ref sig .tc := ⟨.hbm, 84, rfl⟩
abbrev main_call3_v0 : Ref sig .tc := ⟨.hbm, 85, rfl⟩
abbrev main_v55 : Ref sig .tc := ⟨.hbm, 86, rfl⟩
abbrev main_c_22 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_23 : Ref sig .tc := ⟨.hbm, 96, rfl⟩
abbrev main_v64 : Ref sig .tc := ⟨.hbm, 97, rfl⟩
abbrev main_v65 : Ref sig .tc := ⟨.hbm, 98, rfl⟩
abbrev main_c_24 : Ref sig .tc := ⟨.hbm, 99, rfl⟩
abbrev main_v66 : Ref sig .tc := ⟨.hbm, 100, rfl⟩
abbrev main_v67 : Ref sig .tc := ⟨.hbm, 101, rfl⟩
abbrev main_c_25 : Ref sig .tc := ⟨.hbm, 102, rfl⟩
abbrev main_v68 : Ref sig .tc := ⟨.hbm, 103, rfl⟩
abbrev main_v69 : Ref sig .tc := ⟨.hbm, 104, rfl⟩
abbrev main_c_26 : Ref sig .tc := ⟨.hbm, 105, rfl⟩
abbrev main_v70 : Ref sig .tc := ⟨.hbm, 106, rfl⟩
abbrev main_v71 : Ref sig .tc := ⟨.hbm, 107, rfl⟩
abbrev main_c_27 : Ref sig .tc := ⟨.hbm, 108, rfl⟩
abbrev main_v72 : Ref sig .tc := ⟨.hbm, 109, rfl⟩
abbrev main_v73 : Ref sig .tc := ⟨.hbm, 110, rfl⟩
abbrev main_c_28 : Ref sig .tc := ⟨.hbm, 111, rfl⟩
abbrev main_v74 : Ref sig .tc := ⟨.hbm, 112, rfl⟩
abbrev main_v75 : Ref sig .tc := ⟨.hbm, 113, rfl⟩
abbrev main_c_29 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_c_30 : Ref sig .tc := ⟨.hbm, 118, rfl⟩
abbrev main_v79 : Ref sig .tc := ⟨.hbm, 119, rfl⟩
abbrev main_v80 : Ref sig .tc := ⟨.hbm, 120, rfl⟩
abbrev main_c_31 : Ref sig .tc := ⟨.hbm, 121, rfl⟩
abbrev main_v81 : Ref sig .tc := ⟨.hbm, 122, rfl⟩
abbrev main_v82 : Ref sig .tc := ⟨.hbm, 123, rfl⟩
abbrev main_c_32 : Ref sig .tc := ⟨.hbm, 124, rfl⟩
abbrev main_v83 : Ref sig .tc := ⟨.hbm, 125, rfl⟩
abbrev main_v84 : Ref sig .tc := ⟨.hbm, 126, rfl⟩
abbrev main_c_33 : Ref sig .tc := ⟨.hbm, 127, rfl⟩
abbrev main_c_34 : Ref sig .tc := ⟨.hbm, 128, rfl⟩
abbrev main_call4_v0 : Ref sig .tc := ⟨.hbm, 129, rfl⟩
abbrev main_call4_v1 : Ref sig .tc := ⟨.hbm, 130, rfl⟩
abbrev main_v85 : Ref sig .tc := ⟨.hbm, 131, rfl⟩
abbrev main_c_35 : Ref sig .tc := ⟨.hbm, 132, rfl⟩
abbrev main_call5_v0 : Ref sig .tc := ⟨.hbm, 133, rfl⟩
abbrev main_v86 : Ref sig .tc := ⟨.hbm, 134, rfl⟩
abbrev main_c_36 : Ref sig .tc := ⟨.hbm, 135, rfl⟩
abbrev main_call6_v0 : Ref sig .tc := ⟨.hbm, 136, rfl⟩
abbrev main_v87 : Ref sig .tc := ⟨.hbm, 137, rfl⟩
abbrev main_c_37 : Ref sig .tc := ⟨.hbm, 138, rfl⟩
abbrev main_v88 : Ref sig .tc := ⟨.hbm, 139, rfl⟩
abbrev main_v89 : Ref sig .tc := ⟨.hbm, 140, rfl⟩
abbrev main_call7_v0 : Ref sig .tc := ⟨.hbm, 141, rfl⟩
abbrev main_v90 : Ref sig .tc := ⟨.hbm, 142, rfl⟩
abbrev main_c_38 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_c_39 : Ref sig .tc := ⟨.hbm, 153, rfl⟩
abbrev main_v100 : Ref sig .tc := ⟨.hbm, 154, rfl⟩
abbrev main_v101 : Ref sig .tc := ⟨.hbm, 155, rfl⟩
abbrev main_c_40 : Ref sig .tc := ⟨.hbm, 156, rfl⟩
abbrev main_v102 : Ref sig .tc := ⟨.hbm, 157, rfl⟩
abbrev main_v103 : Ref sig .tc := ⟨.hbm, 158, rfl⟩
abbrev main_c_41 : Ref sig .tc := ⟨.hbm, 159, rfl⟩
abbrev main_v104 : Ref sig .tc := ⟨.hbm, 160, rfl⟩
abbrev main_v105 : Ref sig .tc := ⟨.hbm, 161, rfl⟩
abbrev main_c_42 : Ref sig .tc := ⟨.hbm, 162, rfl⟩
abbrev main_v106 : Ref sig .tc := ⟨.hbm, 163, rfl⟩
abbrev main_v107 : Ref sig .tc := ⟨.hbm, 164, rfl⟩
abbrev main_c_43 : Ref sig .tc := ⟨.hbm, 165, rfl⟩
abbrev main_v108 : Ref sig .tc := ⟨.hbm, 166, rfl⟩
abbrev main_v109 : Ref sig .tc := ⟨.hbm, 167, rfl⟩
abbrev main_c_44 : Ref sig .tc := ⟨.hbm, 168, rfl⟩
abbrev main_v110 : Ref sig .tc := ⟨.hbm, 169, rfl⟩
abbrev main_v111 : Ref sig .tc := ⟨.hbm, 170, rfl⟩
abbrev main_c_45 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_c_46 : Ref sig .tc := ⟨.hbm, 175, rfl⟩
abbrev main_v115 : Ref sig .tc := ⟨.hbm, 176, rfl⟩
abbrev main_v116 : Ref sig .tc := ⟨.hbm, 177, rfl⟩
abbrev main_c_47 : Ref sig .tc := ⟨.hbm, 178, rfl⟩
abbrev main_v117 : Ref sig .tc := ⟨.hbm, 179, rfl⟩
abbrev main_v118 : Ref sig .tc := ⟨.hbm, 180, rfl⟩
abbrev main_c_48 : Ref sig .tc := ⟨.hbm, 181, rfl⟩
abbrev main_v119 : Ref sig .tc := ⟨.hbm, 182, rfl⟩
abbrev main_v120 : Ref sig .tc := ⟨.hbm, 183, rfl⟩
abbrev main_c_49 : Ref sig .tc := ⟨.hbm, 184, rfl⟩
abbrev main_c_50 : Ref sig .tc := ⟨.hbm, 185, rfl⟩
abbrev main_call8_v0 : Ref sig .tc := ⟨.hbm, 186, rfl⟩
abbrev main_call8_v1 : Ref sig .tc := ⟨.hbm, 187, rfl⟩
abbrev main_v121 : Ref sig .tc := ⟨.hbm, 188, rfl⟩
abbrev main_c_51 : Ref sig .tc := ⟨.hbm, 189, rfl⟩
abbrev main_call9_v0 : Ref sig .tc := ⟨.hbm, 190, rfl⟩
abbrev main_v122 : Ref sig .tc := ⟨.hbm, 191, rfl⟩
abbrev main_c_52 : Ref sig .tc := ⟨.hbm, 192, rfl⟩
abbrev main_call10_v0 : Ref sig .tc := ⟨.hbm, 193, rfl⟩
abbrev main_v123 : Ref sig .tc := ⟨.hbm, 194, rfl⟩
abbrev main_c_53 : Ref sig .tc := ⟨.hbm, 195, rfl⟩
abbrev main_v124 : Ref sig .tc := ⟨.hbm, 196, rfl⟩
abbrev main_v125 : Ref sig .tc := ⟨.hbm, 197, rfl⟩
abbrev main_call11_v0 : Ref sig .tc := ⟨.hbm, 198, rfl⟩
abbrev main_v126 : Ref sig .tc := ⟨.hbm, 199, rfl⟩
abbrev main_c_54 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_c_55 : Ref sig .tc := ⟨.hbm, 210, rfl⟩
abbrev main_v136 : Ref sig .tc := ⟨.hbm, 211, rfl⟩
abbrev main_v137 : Ref sig .tc := ⟨.hbm, 212, rfl⟩
abbrev main_c_56 : Ref sig .tc := ⟨.hbm, 213, rfl⟩
abbrev main_v138 : Ref sig .tc := ⟨.hbm, 214, rfl⟩
abbrev main_v139 : Ref sig .tc := ⟨.hbm, 215, rfl⟩
abbrev main_c_57 : Ref sig .tc := ⟨.hbm, 216, rfl⟩
abbrev main_v140 : Ref sig .tc := ⟨.hbm, 217, rfl⟩
abbrev main_v141 : Ref sig .tc := ⟨.hbm, 218, rfl⟩
abbrev main_c_58 : Ref sig .tc := ⟨.hbm, 219, rfl⟩
abbrev main_v142 : Ref sig .tc := ⟨.hbm, 220, rfl⟩
abbrev main_v143 : Ref sig .tc := ⟨.hbm, 221, rfl⟩
abbrev main_c_59 : Ref sig .tc := ⟨.hbm, 222, rfl⟩
abbrev main_v144 : Ref sig .tc := ⟨.hbm, 223, rfl⟩
abbrev main_v145 : Ref sig .tc := ⟨.hbm, 224, rfl⟩
abbrev main_c_60 : Ref sig .tc := ⟨.hbm, 225, rfl⟩
abbrev main_v146 : Ref sig .tc := ⟨.hbm, 226, rfl⟩
abbrev main_v147 : Ref sig .tc := ⟨.hbm, 227, rfl⟩
abbrev main_c_61 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_c_62 : Ref sig .tc := ⟨.hbm, 232, rfl⟩
abbrev main_v151 : Ref sig .tc := ⟨.hbm, 233, rfl⟩
abbrev main_v152 : Ref sig .tc := ⟨.hbm, 234, rfl⟩
abbrev main_c_63 : Ref sig .tc := ⟨.hbm, 235, rfl⟩
abbrev main_v153 : Ref sig .tc := ⟨.hbm, 236, rfl⟩
abbrev main_v154 : Ref sig .tc := ⟨.hbm, 237, rfl⟩
abbrev main_c_64 : Ref sig .tc := ⟨.hbm, 238, rfl⟩
abbrev main_v155 : Ref sig .tc := ⟨.hbm, 239, rfl⟩
abbrev main_v156 : Ref sig .tc := ⟨.hbm, 240, rfl⟩
abbrev main_c_65 : Ref sig .tc := ⟨.hbm, 241, rfl⟩
abbrev main_c_66 : Ref sig .tc := ⟨.hbm, 242, rfl⟩
abbrev main_call12_v0 : Ref sig .tc := ⟨.hbm, 243, rfl⟩
abbrev main_call12_v1 : Ref sig .tc := ⟨.hbm, 244, rfl⟩
abbrev main_v157 : Ref sig .tc := ⟨.hbm, 245, rfl⟩
abbrev main_c_67 : Ref sig .tc := ⟨.hbm, 246, rfl⟩
abbrev main_call13_v0 : Ref sig .tc := ⟨.hbm, 247, rfl⟩
abbrev main_v158 : Ref sig .tc := ⟨.hbm, 248, rfl⟩
abbrev main_c_68 : Ref sig .tc := ⟨.hbm, 249, rfl⟩
abbrev main_call14_v0 : Ref sig .tc := ⟨.hbm, 250, rfl⟩
abbrev main_v159 : Ref sig .tc := ⟨.hbm, 251, rfl⟩
abbrev main_c_69 : Ref sig .tc := ⟨.hbm, 252, rfl⟩
abbrev main_v160 : Ref sig .tc := ⟨.hbm, 253, rfl⟩
abbrev main_v161 : Ref sig .tc := ⟨.hbm, 254, rfl⟩
abbrev main_call15_v0 : Ref sig .tc := ⟨.hbm, 255, rfl⟩
abbrev main_v162 : Ref sig .tc := ⟨.hbm, 256, rfl⟩
abbrev main_c_70 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_v176 : Ref sig .tc := ⟨.hbm, 271, rfl⟩

abbrev nD : Nat := 1
abbrev τ : Topo := Topo.v7x

variable {F : FTy → Type} [FloatOps F]
-- ==== Proof.Code.lean ====
/-
  The six-bit weight codes, read two ways. Three packed bytes hold four codes (one sign bit, three exponent bits, two
  fraction bits, no infinity and no NaN). `value` is the number a code means. The reference forms a code in 32-bit
  arithmetic and spells its value as a bf16 pattern (`refBits`); the kernel puts the code's bits into an fp8 e5m2 byte
  (`rebased`), whose value is the code's divided by 4096, and does so on four bytes of a 32-bit word at once (`word0` … `word3`).
-/
module

public import Idealize.ShloMosaic.PureOps.Ideal
public import Idealize.ShloMosaic.Lib.BitcastFour

@[expose] public section

noncomputable section

namespace Cert.Proof.Code

open Idealize.ShloMosaic

/-! ## The codes -/

/-- The first code of a group: the low six bits of the first byte. -/
def code0 (b0 : BitVec 8) : BitVec 6 := b0.extractLsb' 0 6
/-- The second code: two bits of the first byte below four of the second. -/
def code1 (b0 b1 : BitVec 8) : BitVec 6 := b1.extractLsb' 0 4 ++ b0.extractLsb' 6 2
/-- The third code: four bits of the second byte below two of the third. -/
def code2 (b1 b2 : BitVec 8) : BitVec 6 := b2.extractLsb' 0 2 ++ b1.extractLsb' 4 4
/-- The fourth code: the high six bits of the third byte. -/
def code3 (b2 : BitVec 8) : BitVec 6 := b2.extractLsb' 2 6

/-- The number a code means: exponent bias 3, an all-zero exponent subnormal. -/
def value (c : BitVec 6) : ℝ :=
  let e : Nat := (c.extractLsb' 2 3).toNat
  let f : Nat := (c.extractLsb' 0 2).toNat
  let sgn : ℝ := if c.extractLsb' 5 1 == 1#1 then -1 else 1
  if e = 0 then sgn * f * (2 : ℝ) ^ (-4 : Int) else sgn * (4 + f : Nat) * (2 : ℝ) ^ ((e : Int) - 5)

/-! ## The reference's reading -/

/-- The bf16 pattern the reference builds from a code held in 32 bits. -/
def refBits (c : BitVec 32) : BitVec 16 :=
  (IntOp.ori
    (Scalar.select (IntOp.cmpi .eq (IntOp.andi (IntOp.shrsi .host c 2#32) 7#32) 0#32)
      (Scalar.select (IntOp.cmpi .eq (IntOp.andi c 3#32) 0#32) 0#32
        (Scalar.select (IntOp.cmpi .eq (IntOp.andi c 3#32) 1#32) 15744#32
          (Scalar.select (IntOp.cmpi .eq (IntOp.andi c 3#32) 2#32) 15872#32 15936#32)))
      (IntOp.ori (IntOp.shli .host (IntOp.addi (IntOp.andi (IntOp.shrsi .host c 2#32) 7#32) 124#32) 7#32)
        (IntOp.shli .host (IntOp.andi c 3#32) 5#32)))
    (IntOp.shli .host (IntOp.shrsi .host c 5#32) 15#32)).setWidth 16

/-- A property of six-bit codes holds of every code once it holds of the sixty-four numerals. -/
theorem forall_code (P : BitVec 6 → Prop) (h : ∀ n : Nat, n < 64 → P (BitVec.ofNat 6 n)) (c : BitVec 6) : P c := by
  have := h c.toNat c.isLt
  rwa [BitVec.ofNat_toNat, BitVec.setWidth_eq] at this

/-- The bf16 pattern's value is the code's. -/
theorem ofBits_refBits (c : BitVec 6) : Ideal.ofBits .bf16 (refBits (c.setWidth 32)) = ((value c : ℝ) : EReal) := by
  refine forall_code (fun c => Ideal.ofBits .bf16 (refBits (c.setWidth 32)) = ((value c : ℝ) : EReal)) ?_ c
  intro n hn
  interval_cases n <;>
    (simp [refBits, value, IntOp.ori, IntOp.andi, IntOp.addi, IntOp.shrsi, IntOp.shli, IntOp.cmpi, Scalar.select,
      Ideal.ofBits, Ideal.ieee, -EReal.coe_mul, -EReal.coe_neg]; try norm_num)

/-! ## The kernel's reading -/

/-- The fp8 e5m2 byte the kernel builds from a code: the sign on top, two zeros, then exponent and fraction. -/
def rebased (c : BitVec 6) : BitVec 8 := c.extractLsb' 5 1 ++ 0#2 ++ c.extractLsb' 0 5

/-- The fp8 byte's value is the code's divided by 4096: the exponent's bias is 15 instead of 3. -/
theorem ofBits_rebased (c : BitVec 6) : Ideal.ofBits .fp8e5m2 (rebased c) = ((value c / 4096 : ℝ) : EReal) := by
  refine forall_code (fun c => Ideal.ofBits .fp8e5m2 (rebased c) = ((value c / 4096 : ℝ) : EReal)) ?_ c
  intro n hn
  interval_cases n <;>
    (simp [rebased, value, Ideal.ofBits, Ideal.ieee, -EReal.coe_mul, -EReal.coe_neg]; try norm_num)

/-- The factor the kernel multiplies the sum by. -/
theorem ofBits_4096 : Ideal.ofBits .f32 0x45800000#32 = ((4096 : ℝ) : EReal) := by
  simp [Ideal.ofBits, Ideal.ieee, -EReal.coe_mul]; norm_num

end Cert.Proof.Code

end
-- ==== Proof.Words.lean ====
/-
  Four codes at a time. The kernel reads four rows of a byte plane as one row of 32-bit words, moves the code bits of all
  four bytes of a word by masks and shifts, and reads the words as bytes again. Byte by byte this is the rebasing of one
  code (`Code.rebased`): no mask lets a bit cross from one byte to another.
-/
module

public import proofs.«01_k».proof.Proof.Code

@[expose] public section

noncomputable section

namespace Cert.Proof.Words

open Idealize.ShloMosaic Cert.Proof.Code

/-- Byte `s` of a word, byte 0 the lowest. -/
def byteOf (w : BitVec 32) (s : Nat) : BitVec 8 := w.extractLsb' (8 * s) 8

/-! ## The kernel's word expressions -/

/-- First code: from the first plane's word. -/
def word0 (w0 : BitVec 32) : BitVec 32 :=
  IntOp.ori (IntOp.andi w0 522133279#32) (IntOp.shli .vector (IntOp.andi w0 538976288#32) 2#32)

/-- Second code: from the first and second planes' words. -/
def word1 (w0 w1 : BitVec 32) : BitVec 32 :=
  IntOp.ori (IntOp.ori (IntOp.andi (IntOp.shrui .vector w0 6#32) 50529027#32)
    (IntOp.shli .vector (IntOp.andi w1 117901063#32) 2#32)) (IntOp.shli .vector (IntOp.andi w1 134744072#32) 4#32)

/-- Third code: from the second and third planes' words. -/
def word2 (w1 w2 : BitVec 32) : BitVec 32 :=
  IntOp.ori (IntOp.ori (IntOp.andi (IntOp.shrui .vector w1 4#32) 252645135#32)
    (IntOp.shli .vector (IntOp.andi w2 16843009#32) 4#32)) (IntOp.shli .vector (IntOp.andi w2 33686018#32) 6#32)

/-- Fourth code: from the third plane's word. -/
def word3 (w2 : BitVec 32) : BitVec 32 :=
  IntOp.ori (IntOp.andi (IntOp.shrui .vector w2 2#32) 522133279#32) (IntOp.andi w2 2155905152#32)

/-! ## The bits of the codes and of the rebased byte -/

/-- The rebased byte's bits: the code's five low bits, two zeros, the code's sign. -/
theorem rebased_getLsbD (c : BitVec 6) (q : Nat) (hq : q < 8) :
    (rebased c).getLsbD q = if q < 5 then c.getLsbD q else if q = 7 then c.getLsbD 5 else false := by
  unfold rebased
  show BitVec.getLsbD (w := 1 + 2 + 5) _ q = _
  rw [BitVec.getLsbD_append, BitVec.getLsbD_append]
  interval_cases q <;> simp [-BitVec.getLsbD_eq_getElem]

theorem code0_getLsbD (b0 : BitVec 8) (q : Nat) (hq : q < 6) : (code0 b0).getLsbD q = b0.getLsbD q := by
  unfold code0
  simp [-BitVec.getLsbD_eq_getElem, BitVec.getLsbD_extractLsb', hq]

theorem code1_getLsbD (b0 b1 : BitVec 8) (q : Nat) (hq : q < 6) :
    (code1 b0 b1).getLsbD q = if q < 2 then b0.getLsbD (6 + q) else b1.getLsbD (q - 2) := by
  unfold code1
  show BitVec.getLsbD (w := 4 + 2) _ q = _
  rw [BitVec.getLsbD_append]
  interval_cases q <;> simp [-BitVec.getLsbD_eq_getElem]

theorem code2_getLsbD (b1 b2 : BitVec 8) (q : Nat) (hq : q < 6) :
    (code2 b1 b2).getLsbD q = if q < 4 then b1.getLsbD (4 + q) else b2.getLsbD (q - 4) := by
  unfold code2
  show BitVec.getLsbD (w := 2 + 4) _ q = _
  rw [BitVec.getLsbD_append]
  interval_cases q <;> simp [-BitVec.getLsbD_eq_getElem]

theorem code3_getLsbD (b2 : BitVec 8) (q : Nat) (hq : q < 6) : (code3 b2).getLsbD q = b2.getLsbD (2 + q) := by
  unfold code3
  simp [-BitVec.getLsbD_eq_getElem, BitVec.getLsbD_extractLsb', hq]

theorem byteOf_getLsbD (w : BitVec 32) (s q : Nat) (hq : q < 8) : (byteOf w s).getLsbD q = w.getLsbD (8 * s + q) := by
  unfold byteOf
  rw [BitVec.getLsbD_extractLsb']
  simp only [hq, decide_true, Bool.true_and]

/-! ## Each is, byte by byte, the rebasing of one code -/

/-- Each byte of the first word is the first code rebased. -/
theorem byteOf_word0 (w0 : BitVec 32) (s : Nat) (hs : s < 4) : byteOf (word0 w0) s = rebased (code0 (byteOf w0 s)) := by
  apply BitVec.eq_of_getLsbD_eq
  intro q hq
  interval_cases s <;> interval_cases q <;>
    simp [-BitVec.getLsbD_eq_getElem, byteOf_getLsbD, word0, rebased_getLsbD, code0_getLsbD, IntOp.ori, IntOp.andi, IntOp.shli, BitVec.getLsbD_or, BitVec.getLsbD_and]

/-- Each byte of the second word is the second code rebased. -/
theorem byteOf_word1 (w0 w1 : BitVec 32) (s : Nat) (hs : s < 4) :
    byteOf (word1 w0 w1) s = rebased (code1 (byteOf w0 s) (byteOf w1 s)) := by
  apply BitVec.eq_of_getLsbD_eq
  intro q hq
  interval_cases s <;> interval_cases q <;>
    simp [-BitVec.getLsbD_eq_getElem, byteOf_getLsbD, word1, rebased_getLsbD, code1_getLsbD, IntOp.ori, IntOp.andi, IntOp.shli, IntOp.shrui, BitVec.getLsbD_or, BitVec.getLsbD_and]

/-- Each byte of the third word is the third code rebased. -/
theorem byteOf_word2 (w1 w2 : BitVec 32) (s : Nat) (hs : s < 4) :
    byteOf (word2 w1 w2) s = rebased (code2 (byteOf w1 s) (byteOf w2 s)) := by
  apply BitVec.eq_of_getLsbD_eq
  intro q hq
  interval_cases s <;> interval_cases q <;>
    simp [-BitVec.getLsbD_eq_getElem, byteOf_getLsbD, word2, rebased_getLsbD, code2_getLsbD, IntOp.ori, IntOp.andi, IntOp.shli, IntOp.shrui, BitVec.getLsbD_or, BitVec.getLsbD_and]

/-- Each byte of the fourth word is the fourth code rebased. -/
theorem byteOf_word3 (w2 : BitVec 32) (s : Nat) (hs : s < 4) : byteOf (word3 w2) s = rebased (code3 (byteOf w2 s)) := by
  apply BitVec.eq_of_getLsbD_eq
  intro q hq
  interval_cases s <;> interval_cases q <;>
    simp [-BitVec.getLsbD_eq_getElem, byteOf_getLsbD, word3, rebased_getLsbD, code3_getLsbD, IntOp.ori, IntOp.andi, IntOp.shrui, BitVec.getLsbD_or, BitVec.getLsbD_and]

/-! ## Rows of bytes as rows of words, and back -/

/-- A word made of four rows of bytes: its byte `s` is the byte of row `p`, the `s`-th of the four. -/
theorem byteOf_bitcast {R r n : Nat} (x : (⟨2, ![R, n]⟩ : Shape).Idx → BitVec 8)
    (h : (⟨2, ![R, n]⟩ : Shape).Bitcasts 8 ⟨2, ![r, n]⟩ 32) (a : Fin r) (l : Fin n) (s : Nat) (hs : s < 4) (p : Fin R)
    (hp : p.val = 4 * a.val + s) :
    byteOf (bitcast ⟨2, ![r, n]⟩ 32 x h (ValueIdx.ix2 a l)) s = x (ValueIdx.ix2 p l) := by
  apply BitVec.eq_of_getLsbD_eq
  intro q hq
  have hm : (8 * s + q) % 8 = q := by omega
  rw [byteOf_getLsbD _ _ _ hq, bitcast_8_32_getLsbD_ix2 x h a l (8 * s + q) (by omega) p (by omega), hm]

/-- Words read as rows of bytes: row `p` is byte `s` of the word row `a`, with `p` the `s`-th of its four rows. -/
theorem bitcast_words {R r n : Nat} (x : (⟨2, ![r, n]⟩ : Shape).Idx → BitVec 32)
    (h : (⟨2, ![r, n]⟩ : Shape).Bitcasts 32 ⟨2, ![R, n]⟩ 8) (a : Fin r) (l : Fin n) (s : Nat) (hs : s < 4) (p : Fin R)
    (hp : p.val = 4 * a.val + s) :
    bitcast ⟨2, ![R, n]⟩ 8 x h (ValueIdx.ix2 p l) = byteOf (x (ValueIdx.ix2 a l)) s := by
  apply BitVec.eq_of_getLsbD_eq
  intro q hq
  have hd : ((⟨2, ![R, n]⟩ : Shape).row (ValueIdx.ix2 p l) * 8 + q) / 32 = a.val := by
    show (p.val * 8 + q) / 32 = a.val
    omega
  have hm : ((⟨2, ![R, n]⟩ : Shape).row (ValueIdx.ix2 p l) * 8 + q) % 32 = 8 * s + q := by
    show (p.val * 8 + q) % 32 = 8 * s + q
    omega
  rw [bitcast_getLsbD x h _ q hq (by decide), hm, byteOf_getLsbD _ _ _ hq]
  congr 2
  funext c
  match c with
  | ⟨0, _⟩ => exact Fin.ext ((h.srcIdx_row _ _ _ ⟨0, Nat.zero_lt_two⟩ rfl).trans hd)
  | ⟨1, _⟩ => exact Fin.ext (h.srcIdx_other _ _ _ ⟨1, Nat.one_lt_two⟩ (by show ¬ 1 + 2 = 2; omega))

end Cert.Proof.Words

end
-- ==== Proof.KernelBlock.lean ====
/-
  What one block of the kernel computes: 256 rows of `x` (four planes, one per code of a group) by 512 rows of packed
  weights (three byte planes) and their 512 scales, read at one index as an extended real.
-/
module

public import proofs.«01_k».proof.Proof.Words
public import proofs.«01_k».proof.Proof.Gen.KernelIdeal.Frame
public import Idealize.ShloMosaic.PureOps.Ideal.Laws
public import Idealize.ShloMosaic.Lib.Pipeline.Value
public import Idealize.ShloMosaic.Lib.Pipeline.ValueKit.Tiles
public import Idealize.ShloMosaic.Lib.ValueIdx

@[expose] public section

noncomputable section

namespace Cert.Proof.KernelBlock

open Idealize.ShloMosaic Cert.KernelIdeal Cert.KernelIdeal.Gen Cert.Proof.Code Cert.Proof.Words
open Idealize.ShloMosaic.ValueIdx

/-! ## The bytes of a plane -/

/-- A byte plane loaded from the block, its unit axis dropped, at row `p` and column `l`. -/
theorem plane_apply (x1 : Vec Ideal S3x512x2048 .i8) (j : Nat) (hj : j < 3)
    (inb : ∀ a, (![j, 0, 0] : Fin S3x512x2048.rank → Nat) a + S1x512x2048.size a ≤ S3x512x2048.size a) (p : Fin 512) (l : Fin 2048) :
    shapeCast (s := S1x512x2048) S512x2048 (View.ld x1 (Rect.unit (s := S3x512x2048) ![j, 0, 0] S1x512x2048.size inb)) shapeCasts_S1x512x2048_S512x2048 (ix2 p l)
      = x1 (ix3 (⟨j, hj⟩ : Fin 3) p l) := by
  rw [shapeCast_apply _ shapeCasts_S1x512x2048_S512x2048 (ix2 p l) (ix3 (0 : Fin 1) p l) (by
    rewrite [Shape.rowMajor_val_three, Shape.rowMajor_val_two]
    show (0 * 512 + p.val) * 2048 + l.val = p.val * 2048 + l.val
    omega)]
  exact View.ld_unit_apply_of x1 ![j, 0, 0] S1x512x2048.size inb (ix3 (0 : Fin 1) p l) (ix3 (⟨j, hj⟩ : Fin 3) p l) (fun a => match a with
    | ⟨0, _⟩ => by show j = j + 0; omega
    | ⟨1, _⟩ => by show p.val = 0 + p.val; omega
    | ⟨2, _⟩ => by show l.val = 0 + l.val; omega)

/-- An activation plane loaded from the block, its unit axis dropped, at row `b` and column `l`. -/
theorem act_apply (x0 : Vec Ideal S4x256x2048 .bf16) (j : Nat) (hj : j < 4)
    (inb : ∀ a, (![j, 0, 0] : Fin S4x256x2048.rank → Nat) a + S1x256x2048.size a ≤ S4x256x2048.size a) (b : Fin 256) (l : Fin 2048) :
    shapeCast (s := S1x256x2048) S256x2048 (View.ld x0 (Rect.unit (s := S4x256x2048) ![j, 0, 0] S1x256x2048.size inb)) shapeCasts_S1x256x2048_S256x2048 (ix2 b l)
      = x0 (ix3 (⟨j, hj⟩ : Fin 4) b l) := by
  rw [shapeCast_apply _ shapeCasts_S1x256x2048_S256x2048 (ix2 b l) (ix3 (0 : Fin 1) b l) (by
    rewrite [Shape.rowMajor_val_three, Shape.rowMajor_val_two]
    show (0 * 256 + b.val) * 2048 + l.val = b.val * 2048 + l.val
    omega)]
  exact View.ld_unit_apply_of x0 ![j, 0, 0] S1x256x2048.size inb (ix3 (0 : Fin 1) b l) (ix3 (⟨j, hj⟩ : Fin 4) b l) (fun a => match a with
    | ⟨0, _⟩ => by show j = j + 0; omega
    | ⟨1, _⟩ => by show b.val = 0 + b.val; omega
    | ⟨2, _⟩ => by show l.val = 0 + l.val; omega)

/-- The words of the first plane: byte `s` of word row `a` is the byte of row `p = 4 a + s`. -/
theorem byteOf_pay2 (x1 : Vec Ideal S3x512x2048 .i8) (a : Fin 128) (l : Fin 2048) (s : Nat) (hs : s < 4) (p : Fin 512) (hp : p.val = 4 * a.val + s) :
    byteOf (k0_pay2 (F := Ideal) (View.ld x1 r0_0) (ix2 a l)) s = x1 (ix3 (0 : Fin 3) p l) := by
  have e := plane_apply x1 0 (by decide) inb_S3x512x2048_S1x512x2048_0_0_0 p l
  unfold k0_pay2
  revert e
  generalize shapeCast (s := S1x512x2048) S512x2048 (View.ld x1 r0_0) shapeCasts_S1x512x2048_S512x2048 = v
  intro e
  rw [byteOf_bitcast v bitcasts_S512x2048_w8_S128x2048_w32 a l s hs p hp]
  exact e

/-- The words of the second plane. -/
theorem byteOf_pay3 (x1 : Vec Ideal S3x512x2048 .i8) (a : Fin 128) (l : Fin 2048) (s : Nat) (hs : s < 4) (p : Fin 512) (hp : p.val = 4 * a.val + s) :
    byteOf (k0_pay3 (F := Ideal) (View.ld x1 r0_1) (ix2 a l)) s = x1 (ix3 (1 : Fin 3) p l) := by
  have e := plane_apply x1 1 (by decide) inb_S3x512x2048_S1x512x2048_1_0_0 p l
  unfold k0_pay3
  revert e
  generalize shapeCast (s := S1x512x2048) S512x2048 (View.ld x1 r0_1) shapeCasts_S1x512x2048_S512x2048 = v
  intro e
  rw [byteOf_bitcast v bitcasts_S512x2048_w8_S128x2048_w32 a l s hs p hp]
  exact e

/-- The words of the third plane. -/
theorem byteOf_pay4 (x1 : Vec Ideal S3x512x2048 .i8) (a : Fin 128) (l : Fin 2048) (s : Nat) (hs : s < 4) (p : Fin 512) (hp : p.val = 4 * a.val + s) :
    byteOf (k0_pay4 (F := Ideal) (View.ld x1 r0_2) (ix2 a l)) s = x1 (ix3 (2 : Fin 3) p l) := by
  have e := plane_apply x1 2 (by decide) inb_S3x512x2048_S1x512x2048_2_0_0 p l
  unfold k0_pay4
  revert e
  generalize shapeCast (s := S1x512x2048) S512x2048 (View.ld x1 r0_2) shapeCasts_S1x512x2048_S512x2048 = v
  intro e
  rw [byteOf_bitcast v bitcasts_S512x2048_w8_S128x2048_w32 a l s hs p hp]
  exact e

/-! ## One decoded weight -/

/-- Words read as fp8 bytes: the weight at row `p` is the value of the code whose rebasing is the byte there. -/
theorem weight_apply (T : IVec S128x2048 32) (c : BitVec 6) (p : Fin 512) (l : Fin 2048)
    (hT : ∀ (a : Fin 128) (s : Nat), s < 4 → p.val = 4 * a.val + s → byteOf (T (ix2 a l)) s = rebased c) :
    (extf .bf16 (bitcastToFloat (F := Ideal) .fp8e5m2 (bitcast S512x2048 8 T bitcasts_S128x2048_w32_S512x2048_w8)) bitsLt_fp8e5m2_bf16
      : FVec Ideal S512x2048 .bf16) (ix2 p l) = ((value c / 4096 : ℝ) : EReal) := by
  have hp := p.isLt
  have ha : p.val / 4 < 128 := by omega
  show Ideal.ofBits .fp8e5m2 (bitcast S512x2048 8 T bitcasts_S128x2048_w32_S512x2048_w8 (ix2 p l)) = _
  rw [bitcast_words T bitcasts_S128x2048_w32_S512x2048_w8 ⟨p.val / 4, ha⟩ l (p.val % 4) (by omega) p (by show p.val = 4 * (p.val / 4) + p.val % 4; omega),
    hT ⟨p.val / 4, ha⟩ (p.val % 4) (by omega) (by show p.val = 4 * (p.val / 4) + p.val % 4; omega)]
  exact ofBits_rebased c

/-! ## One product -/

theorem lhs_0 (i : S256x512.Idx) (q : dot_S256x2048_S512x2048_S256x512_1_1_0_0_n_n.contr.Idx) :
    (dot_S256x2048_S512x2048_S256x512_1_1_0_0_n_n.lhsIdx i q 0).val = (i 0).val := by
  unfold DotDims.lhsIdx
  rw [dif_neg (show ¬(0 : Fin S256x2048.rank) ∈ dot_S256x2048_S512x2048_S256x512_1_1_0_0_n_n.lhsBatch by decide), dif_pos (show (0 : Fin S256x2048.rank) ∈ dot_S256x2048_S512x2048_S256x512_1_1_0_0_n_n.lhsNonContracting by decide)]
  rfl
theorem lhs_1 (i : S256x512.Idx) (q : dot_S256x2048_S512x2048_S256x512_1_1_0_0_n_n.contr.Idx) :
    (dot_S256x2048_S512x2048_S256x512_1_1_0_0_n_n.lhsIdx i q 1).val = (q ⟨0, by decide⟩).val :=
  dot_S256x2048_S512x2048_S256x512_1_1_0_0_n_n.lhsIdx_val_of_single rfl i q
theorem rhs_0 (i : S256x512.Idx) (q : dot_S256x2048_S512x2048_S256x512_1_1_0_0_n_n.contr.Idx) :
    (dot_S256x2048_S512x2048_S256x512_1_1_0_0_n_n.rhsIdx i q 0).val = (i 1).val := by
  unfold DotDims.rhsIdx
  rw [dif_neg (show ¬(0 : Fin S512x2048.rank) ∈ dot_S256x2048_S512x2048_S256x512_1_1_0_0_n_n.rhsBatch by decide), dif_pos (show (0 : Fin S512x2048.rank) ∈ dot_S256x2048_S512x2048_S256x512_1_1_0_0_n_n.rhsNonContracting by decide)]
  rfl
theorem rhs_1 (i : S256x512.Idx) (q : dot_S256x2048_S512x2048_S256x512_1_1_0_0_n_n.contr.Idx) :
    (dot_S256x2048_S512x2048_S256x512_1_1_0_0_n_n.rhsIdx i q 1).val = (q ⟨0, by decide⟩).val :=
  dot_S256x2048_S512x2048_S256x512_1_1_0_0_n_n.rhsIdx_val_of_single rfl i q

/-- A product of a plane of `x` by decoded weights, at row `b` and weight row `r`: the sum over the 2048 groups. -/
theorem product_apply (X : FVec Ideal S256x2048 .bf16) (W : FVec Ideal S512x2048 .bf16) (b : Fin 256) (r : Fin 512) :
    (matmul dot_S256x2048_S512x2048_S256x512_1_1_0_0_n_n none X W (constant S256x512 .f32 0x00000000#32) : FVec Ideal S256x512 .f32) (ix2 b r)
      = ∑ k : Fin 2048, X (ix2 b k) * W (ix2 r k) := by
  simp only [matmul]
  rw [Ideal.matmul_constant_zero_apply, ← Equiv.sum_comp (contrEquiv1 dot_S256x2048_S512x2048_S256x512_1_1_0_0_n_n 2048 rfl rfl).symm]
  refine Finset.sum_congr rfl fun k _ => ?_
  have hk := contrEquiv1_symm_val dot_S256x2048_S512x2048_S256x512_1_1_0_0_n_n 2048 rfl rfl k
  have el : dot_S256x2048_S512x2048_S256x512_1_1_0_0_n_n.lhsIdx (ix2 b r) ((contrEquiv1 dot_S256x2048_S512x2048_S256x512_1_1_0_0_n_n 2048 rfl rfl).symm k) = ix2 b k := funext fun a => Fin.ext (by
    match a with
    | ⟨0, _⟩ => exact lhs_0 _ _
    | ⟨1, _⟩ => exact (lhs_1 _ _).trans hk)
  have er : dot_S256x2048_S512x2048_S256x512_1_1_0_0_n_n.rhsIdx (ix2 b r) ((contrEquiv1 dot_S256x2048_S512x2048_S256x512_1_1_0_0_n_n 2048 rfl rfl).symm k) = ix2 r k := funext fun a => Fin.ext (by
    match a with
    | ⟨0, _⟩ => exact rhs_0 _ _
    | ⟨1, _⟩ => exact (rhs_1 _ _).trans hk)
  rw [el, er]

/-! ## The block -/

/-- The block's element at row `b` of `x` and weight row `r`: the four products summed, times 4096, times the row's scale. -/
def block (x0 : Vec Ideal S4x256x2048 .bf16) (x1 : Vec Ideal S3x512x2048 .i8) (x2 : Vec Ideal S1x512 .f32) (b : Fin 256) (r : Fin 512) : EReal :=
  ((((∑ k : Fin 2048, x0 (ix3 (0 : Fin 4) b k) * ((value (code0 (x1 (ix3 (0 : Fin 3) r k))) / 4096 : ℝ) : EReal))
    + (∑ k : Fin 2048, x0 (ix3 (1 : Fin 4) b k) * ((value (code1 (x1 (ix3 (0 : Fin 3) r k)) (x1 (ix3 (1 : Fin 3) r k))) / 4096 : ℝ) : EReal)))
    + (∑ k : Fin 2048, x0 (ix3 (2 : Fin 4) b k) * ((value (code2 (x1 (ix3 (1 : Fin 3) r k)) (x1 (ix3 (2 : Fin 3) r k))) / 4096 : ℝ) : EReal)))
    + (∑ k : Fin 2048, x0 (ix3 (3 : Fin 4) b k) * ((value (code3 (x1 (ix3 (2 : Fin 3) r k))) / 4096 : ℝ) : EReal)))
    * ((4096 : ℝ) : EReal) * x2 (ix2 (0 : Fin 1) r)

theorem hz : (![0, 0] : Fin 2 → Nat) = fun _ => 0 := funext fun a => by fin_cases a <;> rfl

/-- What the body leaves in the result block, at an index. -/
theorem out_apply (x0 : Vec Ideal S4x256x2048 .bf16) (x1 : Vec Ideal S3x512x2048 .i8) (x2 : Vec Ideal S1x512 .f32) (b : Fin 256) (r : Fin 512) :
    out0_3 (F := Ideal) x0 x1 x2 (ix2 b r) = block x0 x1 x2 b r := by
  unfold out0_3
  rw [View.canon_unit_zero hz]
  have hscale : broadcastTo S256x512 (shapeCast (s := S1x512) S1x512 (View.ld x2 r0_7) shapeCasts_S1x512_S1x512) broadcasts_S1x512_S256x512 (ix2 b r)
      = x2 (ix2 (0 : Fin 1) r) := by
    rw [shapeCast_self, View.ld_unit_zero hz]
    exact broadcastTo_apply x2 broadcasts_S1x512_S256x512 (ix2 b r) (ix2 (0 : Fin 1) r) (fun a => match a with
      | ⟨0, _⟩ => rfl
      | ⟨1, _⟩ => rfl)
  unfold k0_pay1 k0_pay10 k0_pay11 block
  simp only [truncf_apply, mulf_apply, addf_apply, product_apply, hscale, ValueIdx.broadcast_apply]
  congr 1
  congr 1
  · congr 1
    · congr 1
      · congr 1
        · refine Finset.sum_congr rfl fun k _ => ?_
          rw [act_apply x0 0 (by decide), weight_apply _ (code0 (x1 (ix3 (0 : Fin 3) r k)))]
          · rfl
          · intro a s hs hp
            show byteOf (word0 (k0_pay2 (F := Ideal) (View.ld x1 r0_0) (ix2 a k))) s = _
            rw [byteOf_word0 _ _ hs, byteOf_pay2 x1 a k s hs r hp]
        · refine Finset.sum_congr rfl fun k _ => ?_
          rw [act_apply x0 1 (by decide), weight_apply _ (code1 (x1 (ix3 (0 : Fin 3) r k)) (x1 (ix3 (1 : Fin 3) r k)))]
          · rfl
          · intro a s hs hp
            show byteOf (word1 (k0_pay2 (F := Ideal) (View.ld x1 r0_0) (ix2 a k)) (k0_pay3 (F := Ideal) (View.ld x1 r0_1) (ix2 a k))) s = _
            rw [byteOf_word1 _ _ _ hs, byteOf_pay2 x1 a k s hs r hp, byteOf_pay3 x1 a k s hs r hp]
      · refine Finset.sum_congr rfl fun k _ => ?_
        rw [act_apply x0 2 (by decide), weight_apply _ (code2 (x1 (ix3 (1 : Fin 3) r k)) (x1 (ix3 (2 : Fin 3) r k)))]
        · rfl
        · intro a s hs hp
          show byteOf (word2 (k0_pay3 (F := Ideal) (View.ld x1 r0_1) (ix2 a k)) (k0_pay4 (F := Ideal) (View.ld x1 r0_2) (ix2 a k))) s = _
          rw [byteOf_word2 _ _ _ hs, byteOf_pay3 x1 a k s hs r hp, byteOf_pay4 x1 a k s hs r hp]
    · refine Finset.sum_congr rfl fun k _ => ?_
      rw [act_apply x0 3 (by decide), weight_apply _ (code3 (x1 (ix3 (2 : Fin 3) r k)))]
      · rfl
      · intro a s hs hp
        show byteOf (word3 (k0_pay4 (F := Ideal) (View.ld x1 r0_2) (ix2 a k))) s = _
        rw [byteOf_word3 _ _ hs, byteOf_pay4 x1 a k s hs r hp]
  · exact ofBits_4096

end Cert.Proof.KernelBlock

end
-- ==== Proof.Equation.lean ====
/-
  The two formulas and why they agree. Both sum, over the 2048 groups of four codes, the activations against the values
  of the codes. The kernel sums values divided by 4096 and multiplies the sum by 4096; the reference sums the values.
  Over the extended reals a sum times a finite positive number is the sum of the products, whatever its terms are.
-/
module

public import proofs.«01_k».proof.Proof.Code
public import Idealize.ShloMosaic.Lib.ValueIdx

@[expose] public section

noncomputable section

namespace Cert.Proof.Equation

open Idealize.ShloMosaic Cert.Proof.Code
open Idealize.ShloMosaic.ValueIdx

/-- The activations: 256 rows of 8192. -/
abbrev Acts := (⟨3, ![256, 1, 8192]⟩ : Shape).Idx → EReal
/-- The packed weights: 14848 rows of 2048 groups of three bytes. -/
abbrev Bytes := (⟨3, ![14848, 2048, 3]⟩ : Shape).Idx → BitVec 8
/-- The scales, one per weight row. -/
abbrev Scales := (⟨1, ![14848]⟩ : Shape).Idx → EReal

/-- The column of `x` that code `i` of group `k` multiplies. -/
abbrev col (i : Fin 4) (k : Fin 2048) : Fin 8192 := ⟨4 * k.val + i.val, by omega⟩

/-- The activation that code `i` of group `k` multiplies, in row `b`. -/
def act (x : Acts) (b : Fin 256) (i : Fin 4) (k : Fin 2048) : EReal := x (ix3 b (0 : Fin 1) (col i k))

/-- Code `i` of group `k` in weight row `n`, out of the group's three bytes. -/
def code (w : Bytes) (n : Fin 14848) (i : Fin 4) (k : Fin 2048) : BitVec 6 := match i with
  | ⟨0, _⟩ => code0 (w (ix3 n k (0 : Fin 3)))
  | ⟨1, _⟩ => code1 (w (ix3 n k (0 : Fin 3))) (w (ix3 n k (1 : Fin 3)))
  | ⟨2, _⟩ => code2 (w (ix3 n k (1 : Fin 3))) (w (ix3 n k (2 : Fin 3)))
  | ⟨3, _⟩ => code3 (w (ix3 n k (2 : Fin 3)))

/-- One of the kernel's four sums: activations against code values over 4096. -/
def scaledSum (x : Acts) (w : Bytes) (b : Fin 256) (n : Fin 14848) (i : Fin 4) : EReal :=
  ∑ k : Fin 2048, act x b i k * ((value (code w n i k) / 4096 : ℝ) : EReal)

/-- One of the reference's four sums: activations against code values. -/
def plainSum (x : Acts) (w : Bytes) (b : Fin 256) (n : Fin 14848) (i : Fin 4) : EReal :=
  ∑ k : Fin 2048, act x b i k * ((value (code w n i k) : ℝ) : EReal)

/-- The kernel's formula: the four scaled sums added in order, times 4096, times the row's scale. -/
def kernelOut (x : Acts) (w : Bytes) (s : Scales) (b : Fin 256) (n : Fin 14848) : EReal :=
  (((scaledSum x w b n 0 + scaledSum x w b n 1) + scaledSum x w b n 2) + scaledSum x w b n 3) * ((4096 : ℝ) : EReal) * s (ix1 n)

/-- The reference's formula: the four sums added in order, times the row's scale. -/
def referenceOut (x : Acts) (w : Bytes) (s : Scales) (b : Fin 256) (n : Fin 14848) : EReal :=
  (((plainSum x w b n 0 + plainSum x w b n 1) + plainSum x w b n 2) + plainSum x w b n 3) * s (ix1 n)

/-- A finite nonnegative number distributes over a sum of two extended reals. -/
theorem add_mul_4096 (a b : EReal) : (a + b) * ((4096 : ℝ) : EReal) = a * ((4096 : ℝ) : EReal) + b * ((4096 : ℝ) : EReal) :=
  EReal.right_distrib_of_nonneg_of_ne_top (by exact_mod_cast (by norm_num : (0 : ℝ) ≤ 4096)) (EReal.coe_ne_top _) a b

/-- And over a finite sum. -/
theorem sum_mul_4096 {ι : Type} (t : Finset ι) (f : ι → EReal) :
    (∑ k ∈ t, f k) * ((4096 : ℝ) : EReal) = ∑ k ∈ t, f k * ((4096 : ℝ) : EReal) := by
  classical
  induction t using Finset.induction_on with
  | empty => simp
  | insert a t ha ih => rw [Finset.sum_insert ha, Finset.sum_insert ha, add_mul_4096, ih]

/-- Dividing by 4096 and multiplying back changes no term. -/
theorem term_mul_4096 (a : EReal) (v : ℝ) : a * ((v / 4096 : ℝ) : EReal) * ((4096 : ℝ) : EReal) = a * (v : EReal) := by
  rw [mul_assoc, ← EReal.coe_mul, div_mul_cancel₀ v (by norm_num : (4096 : ℝ) ≠ 0)]

/-- A scaled sum times 4096 is the plain sum. -/
theorem scaledSum_mul (x : Acts) (w : Bytes) (b : Fin 256) (n : Fin 14848) (i : Fin 4) :
    scaledSum x w b n i * ((4096 : ℝ) : EReal) = plainSum x w b n i := by
  unfold scaledSum plainSum
  rw [sum_mul_4096]
  exact Finset.sum_congr rfl fun k _ => term_mul_4096 _ _

/-- THE EQUATION: the kernel's formula is the reference's, for all activations, bytes and scales. -/
theorem kernelOut_eq (x : Acts) (w : Bytes) (s : Scales) (b : Fin 256) (n : Fin 14848) :
    kernelOut x w s b n = referenceOut x w s b n := by
  unfold kernelOut referenceOut
  rw [add_mul_4096, add_mul_4096, add_mul_4096, scaledSum_mul, scaledSum_mul, scaledSum_mul, scaledSum_mul]

end Cert.Proof.Equation

end
-- ==== Proof.KernelValue.lean ====
/-
  What the kernel's arrays hold: what the host operations before the grid leave in the three arrays it reads, the block
  of each of them a grid point sees, and, since the 29 blocks cover the result array, every element of the result.
-/
module

public import proofs.«01_k».proof.Proof.KernelBlock
public import proofs.«01_k».proof.Proof.Equation
public import Idealize.ShloMosaic.Lib.StableHlo.Run

@[expose] public section

noncomputable section

namespace Cert.Proof.KernelValue

open Idealize.ShloMosaic Idealize.ShloMosaic.TcCoe Idealize.SL.Sem
open Cert.KernelIdeal Cert.KernelIdeal.Gen Cert.Proof.Code Cert.Proof.Equation Cert.Proof.KernelBlock
open Idealize.ShloMosaic.ValueIdx

variable (m : (ℓ : Loc nD τ sig) → Buf (Elt Ideal) ℓ) (ρ : Dev nD → PrngReg)

/-! ## The arrays the grid reads -/

/-- The activations of a launch. -/
abbrev xs (c : Dev nD) : Acts := m ((c : Thread nD τ).loc main_arg0)
/-- The packed weights of a launch. -/
abbrev ws (c : Dev nD) : Bytes := m ((c : Thread nD τ).loc main_arg1)
/-- The scales of a launch. -/
abbrev ss (c : Dev nD) : Scales := m ((c : Thread nD τ).loc main_arg2)

/-- The activation planes: the argument reshaped to groups of four, the group's axis moved to the front. -/
theorem V_main_v1 (c : Dev nD) : V m c main_v1
    = transpose S4x256x2048 [2, 0, 1] (shapeCast S256x2048x4 (m ((c : Thread nD τ).loc main_arg0)) shapeCasts_S256x1x8192_S256x2048x4)
        transposes_S256x2048x4_S4x256x2048_2_0_1 := by
  show StableHlo.after hostOps0 _ (Proc.devRef .tc main_v1) = _
  after_results
  rfl

/-- The byte planes: the byte's axis moved to the front. -/
theorem V_main_v2 (c : Dev nD) : V m c main_v2
    = transpose S3x14848x2048 [2, 0, 1] (m ((c : Thread nD τ).loc main_arg1)) transposes_S14848x2048x3_S3x14848x2048_2_0_1 := by
  show StableHlo.after hostOps0 _ (Proc.devRef .tc main_v2) = _
  after_results

/-- The scales as one row. -/
theorem V_main_v3 (c : Dev nD) : V m c main_v3
    = shapeCast S1x14848 (m ((c : Thread nD τ).loc main_arg2)) shapeCasts_S14848_S1x14848 := by
  show StableHlo.after hostOps0 _ (Proc.devRef .tc main_v3) = _
  after_results
  rfl

/-- Plane `i` of the activations at row `b` and group `k`. -/
theorem V_main_v1_apply (c : Dev nD) (i : Fin 4) (b : Fin 256) (k : Fin 2048) :
    V m c main_v1 (ix3 i b k) = act (xs m c) b i k := by
  rw [V_main_v1]
  unfold act
  show transpose S4x256x2048 [2, 0, 1] (shapeCast S256x2048x4 (xs m c) shapeCasts_S256x1x8192_S256x2048x4) transposes_S256x2048x4_S4x256x2048_2_0_1 (ix3 i b k) = _
  generalize xs m c = x
  rw [transpose_apply [2, 0, 1] _ transposes_S256x2048x4_S4x256x2048_2_0_1 (ix3 i b k) (ix3 b k i) (fun a => match a with
    | ⟨0, _⟩ => rfl
    | ⟨1, _⟩ => rfl
    | ⟨2, _⟩ => rfl)]
  exact shapeCast_apply x shapeCasts_S256x1x8192_S256x2048x4 (ix3 b k i) (ix3 b (0 : Fin 1) (col i k)) (by
    rewrite [Shape.rowMajor_val_three, Shape.rowMajor_val_three]
    show (b.val * 1 + 0) * 8192 + (4 * k.val + i.val) = (b.val * 2048 + k.val) * 4 + i.val
    omega)

/-- Plane `j` of the bytes at row `n` and group `k`. -/
theorem V_main_v2_apply (c : Dev nD) (j : Fin 3) (n : Fin 14848) (k : Fin 2048) :
    V m c main_v2 (ix3 j n k) = ws m c (ix3 n k j) := by
  rw [V_main_v2]
  exact transpose_apply [2, 0, 1] _ transposes_S14848x2048x3_S3x14848x2048_2_0_1 (ix3 j n k) (ix3 n k j) (fun a => match a with
    | ⟨0, _⟩ => rfl
    | ⟨1, _⟩ => rfl
    | ⟨2, _⟩ => rfl)

/-- The row of scales at column `n`. -/
theorem V_main_v3_apply (c : Dev nD) (n : Fin 14848) : V m c main_v3 (ix2 (0 : Fin 1) n) = ss m c (ix1 n) := by
  rw [V_main_v3]
  exact shapeCast_apply _ shapeCasts_S14848_S1x14848 (ix2 (0 : Fin 1) n) (ix1 n) (by
    rewrite [Shape.rowMajor_val_two, Shape.rowMajor_val_one]
    show n.val = 0 * 14848 + n.val
    omega)

/-! ## The blocks of a grid point -/

/-- The weight row that row `r` of point `t`'s block is. -/
def row (t : Fin cfg0.N) (r : Fin 512) : Fin 14848 :=
  ⟨512 * t.val + r.val, by have h : cfg0.N = 29 := N_0; have := t.isLt; omega⟩

/-- Every point's block of the activation planes is the whole array. -/
theorem index0 : ∀ t : Fin grid0.N, win0_0.index t 0 = 0 ∧ win0_0.index t 1 = 0 ∧ win0_0.index t 2 = 0 := by decide +kernel
/-- Point `t`'s block of the byte planes starts at row `512 t`. -/
theorem index1 : ∀ t : Fin grid0.N, win0_1.index t 0 = 0 ∧ win0_1.index t 1 = t.val ∧ win0_1.index t 2 = 0 := by decide +kernel
/-- Point `t`'s block of the scales starts at column `512 t`. -/
theorem index2 : ∀ t : Fin grid0.N, win0_2.index t 0 = 0 ∧ win0_2.index t 1 = t.val := by decide +kernel
/-- Point `t`'s block of the result starts at column `512 t`. -/
theorem index3 : ∀ t : Fin grid0.N, win0_3.index t 0 = 0 ∧ win0_3.index t 1 = t.val := by decide +kernel

/-- The activation planes a point sees. -/
theorem iblk0_apply (c : Dev nD) (t : Fin cfg0.N) (i : Fin 4) (b : Fin 256) (k : Fin 2048) :
    (iblk m c 0 t : Vec Ideal S4x256x2048 .bf16) (ix3 i b k) = act (xs m c) b i k := by
  rw [← V_main_v1_apply m c i b k]
  unfold iblk
  rw [View.read_apply]
  show V m c main_v1 _ = V m c main_v1 _
  refine congrArg (V m c main_v1) (funext fun a => Fin.ext ?_)
  have hi := index0 t
  match a with
  | ⟨0, _⟩ => show win0_0.index t 0 * 4 + 1 * i.val = i.val; rw [hi.1]; omega
  | ⟨1, _⟩ => show win0_0.index t 1 * 256 + 1 * b.val = b.val; rw [hi.2.1]; omega
  | ⟨2, _⟩ => show win0_0.index t 2 * 2048 + 1 * k.val = k.val; rw [hi.2.2]; omega

/-- The byte planes a point sees. -/
theorem iblk1_apply (c : Dev nD) (t : Fin cfg0.N) (j : Fin 3) (r : Fin 512) (k : Fin 2048) :
    (iblk m c 1 t : Vec Ideal S3x512x2048 .i8) (ix3 j r k) = ws m c (ix3 (row t r) k j) := by
  rw [← V_main_v2_apply m c j (row t r) k]
  unfold iblk
  rw [View.read_apply]
  show V m c main_v2 _ = V m c main_v2 _
  refine congrArg (V m c main_v2) (funext fun a => Fin.ext ?_)
  have hi := index1 t
  match a with
  | ⟨0, _⟩ => show win0_1.index t 0 * 3 + 1 * j.val = j.val; rw [hi.1]; omega
  | ⟨1, _⟩ => show win0_1.index t 1 * 512 + 1 * r.val = 512 * t.val + r.val; rw [hi.2.1]; omega
  | ⟨2, _⟩ => show win0_1.index t 2 * 2048 + 1 * k.val = k.val; rw [hi.2.2]; omega

/-- The scales a point sees. -/
theorem iblk2_apply (c : Dev nD) (t : Fin cfg0.N) (r : Fin 512) :
    (iblk m c 2 t : Vec Ideal S1x512 .f32) (ix2 (0 : Fin 1) r) = ss m c (ix1 (row t r)) := by
  rw [← V_main_v3_apply m c (row t r)]
  unfold iblk
  rw [View.read_apply]
  show V m c main_v3 _ = V m c main_v3 _
  refine congrArg (V m c main_v3) (funext fun a => Fin.ext ?_)
  have hi := index2 t
  match a with
  | ⟨0, _⟩ => show win0_2.index t 0 * 1 + 1 * 0 = 0; rw [hi.1]
  | ⟨1, _⟩ => show win0_2.index t 1 * 512 + 1 * r.val = 512 * t.val + r.val; rw [hi.2]; omega

/-- What a point computes is the kernel's formula at the rows of its block. -/
theorem block_eq (c : Dev nD) (t : Fin cfg0.N) (b : Fin 256) (r : Fin 512) :
    block (iblk m c 0 t) (iblk m c 1 t) (iblk m c 2 t) b r = kernelOut (xs m c) (ws m c) (ss m c) b (row t r) := by
  unfold block kernelOut scaledSum code
  simp only [iblk0_apply, iblk1_apply, iblk2_apply]

/-! ## The result array -/

/-- The result array the 29 points leave: the kernel's formula at every row of `x` and every weight row. -/
def result (c : Dev nD) : Vec Ideal S256x14848 .bf16 := fun i => kernelOut (xs m c) (ws m c) (ss m c) (i 0) (i 1)

/-- What point `t` writes back is its block of `result`. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  refine funext fun (y : S256x512.Idx) => ?_
  have hi := index3 t
  obtain ⟨b, r, rfl⟩ : ∃ (b : Fin 256) (r : Fin 512), y = ix2 b r := ⟨y 0, y 1, eq_ix2 y⟩
  rw [View.read_apply]
  show out0_3 (F := Ideal) (iblk m c 0 t) (iblk m c 1 t) (iblk m c 2 t) (ix2 b r) = result m c _
  rw [out_apply, block_eq]
  show result m c (ix2 b (row t r)) = result m c _
  refine congrArg (result m c) (funext fun a => Fin.ext ?_)
  match a with
  | ⟨0, _⟩ => show b.val = win0_3.index t 0 * 256 + 1 * b.val; rw [hi.1]; omega
  | ⟨1, _⟩ => show 512 * t.val + r.val = win0_3.index t 1 * 512 + 1 * r.val; rw [hi.2]; omega

/-- Every element of the result array lies in the block of some point. -/
theorem cover (i : S256x14848.Idx) : ∃ t : Fin cfg0.N, (cfg0.win 3).flush t = true ∧ i ∈ ((cfg0.win 3).blk t).view.set := by
  have h0 : (i 0 : Nat) < 256 := (i 0).isLt
  have h1 : (i 1 : Nat) < 14848 := (i 1).isLt
  have hN : cfg0.N = 29 := N_0
  refine ⟨⟨(i 1 : Nat) / 512, by omega⟩, flush0_3 _, ?_⟩
  generalize ht : (⟨(i 1 : Nat) / 512, by omega⟩ : Fin cfg0.N) = t
  have htv : t.val = (i 1 : Nat) / 512 := by rw [← ht]
  have hi := index3 t
  show i ∈ ((View.whole main_v4).slice (win0_3.rect t)).set
  rw [View.set_slice_whole, Rect.mem_set_unit]
  intro a
  match a with
  | ⟨0, _⟩ => show win0_3.index t 0 * 256 ≤ (i 0 : Nat) ∧ (i 0 : Nat) < win0_3.index t 0 * 256 + 256
              rw [hi.1]; omega
  | ⟨1, _⟩ => show win0_3.index t 1 * 512 ≤ (i 1 : Nat) ∧ (i 1 : Nat) < win0_3.index t 1 * 512 + 512
              rw [hi.2]; omega

/-- So the result array ends at `result`. -/
theorem final (c : Dev nD) : (dats m 0 c).arrAt 3 cfg0.N = result m c :=
  (dats m 0 c).arrAt_eq_of_cover 3 (result m c) (fun t _ => flushed_eq m c t) cover

/-- The program's result, reshaped by the host after the grid. -/
theorem W_main_v5 (c : Dev nD) : Pipeline.afterTail₀ cfgs (dats m) 0 (V0 m) [hostOps1] c main_v5
    = shapeCast S256x1x14848 (result m c) shapeCasts_S256x14848_S256x1x14848 := by
  unfold Pipeline.afterTail₀
  show StableHlo.after hostOps1 _ (Proc.devRef .tc main_v5) = _
  after_results
  have e := (Pipeline.withArrays_arr spec0 launch0.win.arr_inj c (V0 m c) (fun w => (dats m 0 c).arrAt w cfg0.N) 3).trans (final m c)
  rw [← e]
  rfl

/-- The program's result at an index. -/
theorem W_main_v5_apply (c : Dev nD) (b : Fin 256) (n : Fin 14848) :
    Pipeline.afterTail₀ cfgs (dats m) 0 (V0 m) [hostOps1] c main_v5 (ix3 b (0 : Fin 1) n) = kernelOut (xs m c) (ws m c) (ss m c) b n := by
  rw [W_main_v5]
  exact shapeCast_apply (result m c) shapeCasts_S256x14848_S256x1x14848 (ix3 b (0 : Fin 1) n) (ix2 b n) (by
    rewrite [Shape.rowMajor_val_two, Shape.rowMajor_val_three]
    show b.val * 14848 + n.val = (b.val * 1 + 0) * 14848 + n.val
    omega)

/-- What the program's result array holds at the end: the kernel's formula, at every row of `x` and weight row. -/
def out (c : Dev nD) : Vec Ideal S256x1x14848 .bf16 := fun i => kernelOut (xs m c) (ws m c) (ss m c) (i 0) (i 2)

/-- Every run ends with the kernel's formula in the result array and the arguments as they were. -/
theorem run : θ_run defs (onTc (τ := τ) (main (F := Ideal))) ⟨m, fun _ => 0, ρ⟩ (fun r => ∀ c : Dev nD,
      r.2.mem ((c.tc : Thread nD τ).loc main_v5) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans (funext fun (i : S256x1x14848.Idx) => by
        obtain ⟨b, u, n, rfl⟩ : ∃ (b : Fin 256) (u : Fin 1) (n : Fin 14848), i = ix3 b u n := ⟨i 0, i 1, i 2, eq_ix3 i⟩
        obtain rfl : u = 0 := Subsingleton.elim _ _
        exact W_main_v5_apply m c b n),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Proof.KernelValue

end
-- ==== Proof.RefCode.lean ====
/-
  The four codes of a group as the reference cuts them out of three bytes in 32-bit arithmetic: each is the six-bit code,
  zero-extended.
-/
module

public import proofs.«01_k».proof.Proof.Words

@[expose] public section

noncomputable section

namespace Cert.Proof.RefCode

open Idealize.ShloMosaic Cert.Proof.Code Cert.Proof.Words

/-- An arithmetic right shift of a zero-extended byte is the logical one. -/
theorem shrsi_byte (b : BitVec 8) (n : Nat) (hn : n < 32) :
    IntOp.shrsi .host (b.setWidth 32) (BitVec.ofNat 32 n) = b.setWidth 32 >>> n := by
  have h : (BitVec.ofNat 32 n).toNat = n := by rw [BitVec.toNat_ofNat]; exact Nat.mod_eq_of_lt (by omega)
  unfold IntOp.shrsi
  rw [h, if_pos hn, BitVec.sshiftRight', h, BitVec.sshiftRight_eq_of_msb_false]
  rw [BitVec.msb_setWidth]
  simp

/-- A left shift by less than the width. -/
theorem shli_lt (x : BitVec 32) (n : Nat) (hn : n < 32) : IntOp.shli .host x (BitVec.ofNat 32 n) = x <<< n := by
  have h : (BitVec.ofNat 32 n).toNat = n := by rw [BitVec.toNat_ofNat]; exact Nat.mod_eq_of_lt (by omega)
  unfold IntOp.shli
  rw [h, if_pos hn]
  show x <<< (BitVec.ofNat 32 n).toNat = _
  rw [h]

/-- The first code. -/
theorem cut0 (b0 : BitVec 8) : IntOp.andi (b0.setWidth 32) 63#32 = (code0 b0).setWidth 32 := by
  unfold IntOp.andi code0
  apply BitVec.eq_of_getLsbD_eq
  intro q hq
  interval_cases q <;> simp [-BitVec.getLsbD_eq_getElem]

/-- The second code. -/
theorem cut1 (b0 b1 : BitVec 8) :
    IntOp.ori (IntOp.shrsi .host (b0.setWidth 32) 6#32) (IntOp.shli .host (IntOp.andi (b1.setWidth 32) 15#32) 2#32) = (code1 b0 b1).setWidth 32 := by
  rw [shrsi_byte b0 6 (by decide), shli_lt _ 2 (by decide)]
  unfold IntOp.ori IntOp.andi
  apply BitVec.eq_of_getLsbD_eq
  intro q hq
  interval_cases q <;> simp [-BitVec.getLsbD_eq_getElem, code1_getLsbD]

/-- The third code. -/
theorem cut2 (b1 b2 : BitVec 8) :
    IntOp.ori (IntOp.shrsi .host (b1.setWidth 32) 4#32) (IntOp.shli .host (IntOp.andi (b2.setWidth 32) 3#32) 4#32) = (code2 b1 b2).setWidth 32 := by
  rw [shrsi_byte b1 4 (by decide), shli_lt _ 4 (by decide)]
  unfold IntOp.ori IntOp.andi
  apply BitVec.eq_of_getLsbD_eq
  intro q hq
  interval_cases q <;> simp [-BitVec.getLsbD_eq_getElem, code2_getLsbD]

/-- The fourth code. -/
theorem cut3 (b2 : BitVec 8) : IntOp.shrsi .host (b2.setWidth 32) 2#32 = (code3 b2).setWidth 32 := by
  rw [shrsi_byte b2 2 (by decide)]
  unfold code3
  apply BitVec.eq_of_getLsbD_eq
  intro q hq
  interval_cases q <;> simp [-BitVec.getLsbD_eq_getElem]

end Cert.Proof.RefCode

end
-- ==== Proof.RefValue.lean ====
/-
  What the reference computes, read at one index: the bytes, the codes, the decoded weights, the activation planes, the
  four products and the scaled sum.
-/
module

public import proofs.«01_k».proof.Proof.RefCode
public import proofs.«01_k».proof.Proof.Equation
public import proofs.«01_k».proof.Proof.Gen.ReferenceIdeal.Read

@[expose] public section

noncomputable section

namespace Cert.Proof.RefValue

open Idealize.ShloMosaic Idealize.ShloMosaic.TcCoe Idealize.SL.Sem
open Cert.ReferenceIdeal Cert.ReferenceIdeal.Gen Cert.ReferenceIdeal.Read Cert.Proof.Code Cert.Proof.RefCode Cert.Proof.Equation
open Idealize.ShloMosaic.ValueIdx

/-! ## The bytes and the codes -/

/-- The first bytes, widened. -/
theorem v2_apply (w : Bytes) (n : Fin 14848) (k : Fin 2048) :
    val_main_v2 (F := Ideal) w (ix2 n k) = (w (ix3 n k (0 : Fin 3))).setWidth 32 := by
  show (val_main_v1 (F := Ideal) w (ix2 n k)).setWidth 32 = _
  rw [val_main_v1_apply, val_main_v0_apply]
  refine congrArg (fun j => (w j).setWidth 32) (funext fun a => Fin.ext ?_)
  match a with
  | ⟨0, _⟩ => show (n.val * 2048 + k.val) / 2048 = n.val; omega
  | ⟨1, _⟩ => show (n.val * 2048 + k.val) / 1 % 2048 = k.val; omega
  | ⟨2, _⟩ => rfl

/-- The second bytes, widened. -/
theorem v5_apply (w : Bytes) (n : Fin 14848) (k : Fin 2048) :
    val_main_v5 (F := Ideal) w (ix2 n k) = (w (ix3 n k (1 : Fin 3))).setWidth 32 := by
  show (val_main_v4 (F := Ideal) w (ix2 n k)).setWidth 32 = _
  rw [val_main_v4_apply, val_main_v3_apply]
  refine congrArg (fun j => (w j).setWidth 32) (funext fun a => Fin.ext ?_)
  match a with
  | ⟨0, _⟩ => show (n.val * 2048 + k.val) / 2048 = n.val; omega
  | ⟨1, _⟩ => show (n.val * 2048 + k.val) / 1 % 2048 = k.val; omega
  | ⟨2, _⟩ => rfl

/-- The third bytes, widened. -/
theorem v8_apply (w : Bytes) (n : Fin 14848) (k : Fin 2048) :
    val_main_v8 (F := Ideal) w (ix2 n k) = (w (ix3 n k (2 : Fin 3))).setWidth 32 := by
  show (val_main_v7 (F := Ideal) w (ix2 n k)).setWidth 32 = _
  rw [val_main_v7_apply, val_main_v6_apply]
  refine congrArg (fun j => (w j).setWidth 32) (funext fun a => Fin.ext ?_)
  match a with
  | ⟨0, _⟩ => show (n.val * 2048 + k.val) / 2048 = n.val; omega
  | ⟨1, _⟩ => show (n.val * 2048 + k.val) / 1 % 2048 = k.val; omega
  | ⟨2, _⟩ => rfl

/-- The first codes. -/
theorem v10_apply (w : Bytes) (n : Fin 14848) (k : Fin 2048) :
    val_main_v10 (F := Ideal) w (ix2 n k) = (code w n 0 k).setWidth 32 := by
  rw [val_main_v10_apply, v2_apply]
  exact cut0 _

/-- The second codes. -/
theorem v17_apply (w : Bytes) (n : Fin 14848) (k : Fin 2048) :
    val_main_v17 (F := Ideal) w (ix2 n k) = (code w n 1 k).setWidth 32 := by
  rw [val_main_v17_apply, val_main_v12_apply, val_main_v16_apply, val_main_v14_apply, v2_apply, v5_apply]
  exact cut1 _ _

/-- The third codes. -/
theorem v24_apply (w : Bytes) (n : Fin 14848) (k : Fin 2048) :
    val_main_v24 (F := Ideal) w (ix2 n k) = (code w n 2 k).setWidth 32 := by
  rw [val_main_v24_apply, val_main_v19_apply, val_main_v23_apply, val_main_v21_apply, v5_apply, v8_apply]
  exact cut2 _ _

/-- The fourth codes. -/
theorem v26_apply (w : Bytes) (n : Fin 14848) (k : Fin 2048) :
    val_main_v26 (F := Ideal) w (ix2 n k) = (code w n 3 k).setWidth 32 := by
  rw [val_main_v26_apply, v8_apply]
  exact cut3 _

/-! ## The decoded weights -/

/-- The first decoded weights are the values of the first codes. -/
theorem v60_apply (w : Bytes) (n : Fin 14848) (k : Fin 2048) :
    val_main_v60 (F := Ideal) w (ix2 n k) = ((value (code w n 0 k) : ℝ) : EReal) := by
  have e : val_main_v60 (F := Ideal) w (ix2 n k) = Ideal.ofBits .bf16 (refBits (val_main_v10 (F := Ideal) w (ix2 n k))) := rfl
  rw [e, v10_apply, ofBits_refBits]

/-- The second decoded weights are the values of the second codes. -/
theorem v95_apply (w : Bytes) (n : Fin 14848) (k : Fin 2048) :
    val_main_v95 (F := Ideal) w (ix2 n k) = ((value (code w n 1 k) : ℝ) : EReal) := by
  have e : val_main_v95 (F := Ideal) w (ix2 n k) = Ideal.ofBits .bf16 (refBits (val_main_v17 (F := Ideal) w (ix2 n k))) := rfl
  rw [e, v17_apply, ofBits_refBits]

/-- The third decoded weights are the values of the third codes. -/
theorem v131_apply (w : Bytes) (n : Fin 14848) (k : Fin 2048) :
    val_main_v131 (F := Ideal) w (ix2 n k) = ((value (code w n 2 k) : ℝ) : EReal) := by
  have e : val_main_v131 (F := Ideal) w (ix2 n k) = Ideal.ofBits .bf16 (refBits (val_main_v24 (F := Ideal) w (ix2 n k))) := rfl
  rw [e, v24_apply, ofBits_refBits]

/-- The fourth decoded weights are the values of the fourth codes. -/
theorem v167_apply (w : Bytes) (n : Fin 14848) (k : Fin 2048) :
    val_main_v167 (F := Ideal) w (ix2 n k) = ((value (code w n 3 k) : ℝ) : EReal) := by
  have e : val_main_v167 (F := Ideal) w (ix2 n k) = Ideal.ofBits .bf16 (refBits (val_main_v26 (F := Ideal) w (ix2 n k))) := rfl
  rw [e, v26_apply, ofBits_refBits]

/-! ## The activation planes -/

/-- The activations regrouped: plane `i`, row `b`, group `k`. -/
theorem v28_apply (x : Acts) (i : Fin 4) (b : Fin 256) (k : Fin 2048) :
    val_main_v28 (F := Ideal) x (ix3 i b k) = act x b i k := by
  rw [val_main_v28_apply, val_main_v27_apply]
  refine congrArg x (funext fun a => Fin.ext ?_)
  match a with
  | ⟨0, _⟩ => show ((b.val * 2048 + k.val) * 4 + i.val) / 8192 = b.val; omega
  | ⟨1, _⟩ => rfl
  | ⟨2, _⟩ => show ((b.val * 2048 + k.val) * 4 + i.val) % 8192 = 4 * k.val + i.val; omega

/-- The first plane. -/
theorem v62_apply (x : Acts) (b : Fin 256) (k : Fin 2048) : val_main_v62 (F := Ideal) x (ix2 b k) = act x b 0 k := by
  rw [val_main_v62_apply, val_main_v61_apply, ← v28_apply]
  refine congrArg (val_main_v28 (F := Ideal) x) (funext fun a => Fin.ext ?_)
  match a with
  | ⟨0, _⟩ => rfl
  | ⟨1, _⟩ => show (b.val * 2048 + k.val) / 2048 % 256 = b.val; omega
  | ⟨2, _⟩ => show (b.val * 2048 + k.val) % 2048 = k.val; omega

/-- The second plane. -/
theorem v97_apply (x : Acts) (b : Fin 256) (k : Fin 2048) : val_main_v97 (F := Ideal) x (ix2 b k) = act x b 1 k := by
  rw [val_main_v97_apply, val_main_v96_apply, ← v28_apply]
  refine congrArg (val_main_v28 (F := Ideal) x) (funext fun a => Fin.ext ?_)
  match a with
  | ⟨0, _⟩ => rfl
  | ⟨1, _⟩ => show (b.val * 2048 + k.val) / 2048 % 256 = b.val; omega
  | ⟨2, _⟩ => show (b.val * 2048 + k.val) % 2048 = k.val; omega

/-- The third plane. -/
theorem v133_apply (x : Acts) (b : Fin 256) (k : Fin 2048) : val_main_v133 (F := Ideal) x (ix2 b k) = act x b 2 k := by
  rw [val_main_v133_apply, val_main_v132_apply, ← v28_apply]
  refine congrArg (val_main_v28 (F := Ideal) x) (funext fun a => Fin.ext ?_)
  match a with
  | ⟨0, _⟩ => rfl
  | ⟨1, _⟩ => show (b.val * 2048 + k.val) / 2048 % 256 = b.val; omega
  | ⟨2, _⟩ => show (b.val * 2048 + k.val) % 2048 = k.val; omega

/-- The fourth plane. -/
theorem v169_apply (x : Acts) (b : Fin 256) (k : Fin 2048) : val_main_v169 (F := Ideal) x (ix2 b k) = act x b 3 k := by
  rw [val_main_v169_apply, val_main_v168_apply, ← v28_apply]
  refine congrArg (val_main_v28 (F := Ideal) x) (funext fun a => Fin.ext ?_)
  match a with
  | ⟨0, _⟩ => rfl
  | ⟨1, _⟩ => show (b.val * 2048 + k.val) / 2048 % 256 = b.val; omega
  | ⟨2, _⟩ => show (b.val * 2048 + k.val) % 2048 = k.val; omega

/-! ## The products, their sum and the scale -/

/-- The left operand's index of a product. -/
theorem lidx_eq (b : Fin 256) (n : Fin 14848) (k : Fin 2048) : lidx_main_v63 (ix2 b n) k = ix2 b k :=
  funext fun a => match a with
    | ⟨0, _⟩ => rfl
    | ⟨1, _⟩ => rfl
/-- The right operand's index of a product. -/
theorem ridx_eq (b : Fin 256) (n : Fin 14848) (k : Fin 2048) : ridx_main_v63 (ix2 b n) k = ix2 n k :=
  funext fun a => match a with
    | ⟨0, _⟩ => rfl
    | ⟨1, _⟩ => rfl

/-- The first product. -/
theorem v63_apply (x : Acts) (w : Bytes) (b : Fin 256) (n : Fin 14848) :
    val_main_v63 (F := Ideal) x w (ix2 b n) = plainSum x w b n 0 := by
  rw [val_main_v63_apply]
  refine Finset.sum_congr rfl fun k _ => ?_
  rw [lidx_eq, ridx_eq, v62_apply, v60_apply]

/-- The second product. -/
theorem v98_apply (x : Acts) (w : Bytes) (b : Fin 256) (n : Fin 14848) :
    val_main_v98 (F := Ideal) x w (ix2 b n) = plainSum x w b n 1 := by
  rw [val_main_v98_apply]
  refine Finset.sum_congr rfl fun k _ => ?_
  rw [show lidx_main_v98 (ix2 b n) k = ix2 b k from lidx_eq b n k, show ridx_main_v98 (ix2 b n) k = ix2 n k from ridx_eq b n k,
    v97_apply, v95_apply]

/-- The third product. -/
theorem v134_apply (x : Acts) (w : Bytes) (b : Fin 256) (n : Fin 14848) :
    val_main_v134 (F := Ideal) x w (ix2 b n) = plainSum x w b n 2 := by
  rw [val_main_v134_apply]
  refine Finset.sum_congr rfl fun k _ => ?_
  rw [show lidx_main_v134 (ix2 b n) k = ix2 b k from lidx_eq b n k, show ridx_main_v134 (ix2 b n) k = ix2 n k from ridx_eq b n k,
    v133_apply, v131_apply]

/-- The fourth product. -/
theorem v170_apply (x : Acts) (w : Bytes) (b : Fin 256) (n : Fin 14848) :
    val_main_v170 (F := Ideal) x w (ix2 b n) = plainSum x w b n 3 := by
  rw [val_main_v170_apply]
  refine Finset.sum_congr rfl fun k _ => ?_
  rw [show lidx_main_v170 (ix2 b n) k = ix2 b k from lidx_eq b n k, show ridx_main_v170 (ix2 b n) k = ix2 n k from ridx_eq b n k,
    v169_apply, v167_apply]

/-- The scale of a column. -/
theorem v173_apply (s : Scales) (b : Fin 256) (n : Fin 14848) : val_main_v173 (F := Ideal) s (ix2 b n) = s (ix1 n) := by
  rw [val_main_v173_apply, val_main_v172_apply]
  exact congrArg s (funext fun a => match a with | ⟨0, _⟩ => rfl)

/-- The scaled sum is the reference's formula. -/
theorem v175_apply (x : Acts) (w : Bytes) (s : Scales) (b : Fin 256) (n : Fin 14848) :
    val_main_v175 (F := Ideal) x w s (ix2 b n) = referenceOut x w s b n := by
  show (((val_main_v63 (F := Ideal) x w (ix2 b n) + val_main_v98 (F := Ideal) x w (ix2 b n)) + val_main_v134 (F := Ideal) x w (ix2 b n))
    + val_main_v170 (F := Ideal) x w (ix2 b n)) * val_main_v173 (F := Ideal) s (ix2 b n) = _
  rw [v63_apply, v98_apply, v134_apply, v170_apply, v173_apply]
  rfl

/-- What the reference's result array holds, at an index. -/
theorem v176_apply (x : Acts) (w : Bytes) (s : Scales) (b : Fin 256) (n : Fin 14848) :
    val_main_v176 (F := Ideal) x w s (ix3 b (0 : Fin 1) n) = referenceOut x w s b n := by
  rw [val_main_v176_apply, ← v175_apply]
  refine congrArg (val_main_v175 (F := Ideal) x w s) (funext fun a => Fin.ext ?_)
  match a with
  | ⟨0, _⟩ => show ((b.val * 1 + 0) * 14848 + n.val) / 14848 = b.val; omega
  | ⟨1, _⟩ => show ((b.val * 1 + 0) * 14848 + n.val) % 14848 = n.val; omega

/-- What the reference's result array holds: its formula, at every row of `x` and weight row. -/
theorem v176_eq (x : Acts) (w : Bytes) (s : Scales) :
    val_main_v176 (F := Ideal) x w s = fun i => referenceOut x w s (i 0) (i 2) := by
  refine funext fun (i : S256x1x14848.Idx) => ?_
  obtain ⟨b, u, n, rfl⟩ : ∃ (b : Fin 256) (u : Fin 1) (n : Fin 14848), i = ix3 b u n := ⟨i 0, i 1, i 2, eq_ix3 i⟩
  obtain rfl : u = 0 := Subsingleton.elim _ _
  exact v176_apply x w s b n

/-- Every run ends with the reference's formula in the result array and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v176)
          = (fun i => referenceOut (m ((c : Thread nD τ).loc main_arg0)) (m ((c : Thread nD τ).loc main_arg1)) (m ((c : Thread nD τ).loc main_arg2)) (i 0) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v176_eq (StableHlo.launchContents m c)).trans (v176_eq _ _ _)), (h c).2⟩)
    (Cert.ReferenceIdeal.Value.run (F := Ideal) m ρ)

end Cert.Proof.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, leaves its arguments as they were and every semaphore counter at zero. -/
theorem frame_kernel : Cert.quiescent_Kernel (hKernel := Cert.Kernel.Gen.facts) := fun m g _ => Cert.Kernel.Gen.frame m g

/-- So does its reading over the extended reals. -/
theorem frame_kernelIdeal : Cert.quiescent_KernelIdeal (hKernelIdeal := Cert.KernelIdeal.Gen.facts) :=
  fun m g _ => Cert.KernelIdeal.Gen.frame m g

/-- So does the reference, which declares no semaphore. -/
theorem frame_referenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- From equal arguments the kernel and the reference end with equal results. -/
theorem algebraic : Cert.algebraic_KernelIdeal_ReferenceIdeal (hKernelIdeal := Cert.KernelIdeal.Gen.facts)
    (hReferenceIdeal := Cert.ReferenceIdeal.Gen.facts) := by
  intro m g m' g' _ hag
  refine ⟨KernelValue.out m, KernelValue.run m g, ?_⟩
  refine (θ_run Cert.ReferenceIdeal.defs _ _).mono (fun _ h c => ⟨(h c).1.trans ?_, (h c).2⟩) (RefValue.run m' g')
  funext i
  obtain ⟨h0, h1, h2⟩ := hag c
  rw [h0, h1, h2]
  exact (Equation.kernelOut_eq _ _ _ _ _).symm

/-- The whole claim. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
